-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_tie_among_the_kept [hPre_no_tie_among_the_kept : Cert.Pre_no_tie_among_the_kept.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie_among_the_kept.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie_among_the_kept [hPre_no_tie_among_the_kept : Cert.Pre_no_tie_among_the_kept.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie_among_the_kept.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_no_tie_among_the_kept [hKernelIdeal : Cert.KernelIdeal.Facts] [hPre_no_tie_among_the_kept : Cert.Pre_no_tie_among_the_kept.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_tie_among_the_kept m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_no_tie_among_the_kept [hReferenceIdeal : Cert.ReferenceIdeal.Facts] [hPre_no_tie_among_the_kept : Cert.Pre_no_tie_among_the_kept.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie_among_the_kept m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_no_tie_among_the_kept [hKernelIdeal : Cert.KernelIdeal.Facts] [hReferenceIdeal : Cert.ReferenceIdeal.Facts] [hPre_no_tie_among_the_kept : Cert.Pre_no_tie_among_the_kept.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_tie_among_the_kept m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_no_tie_among_the_kept : Cert.Pre_no_tie_among_the_kept.Facts),
    quiescent_Kernel (hKernel := hKernel)
    ∧ quiescent_KernelIdeal (hKernelIdeal := hKernelIdeal)
    ∧ quiescent_KernelIdeal_pre_no_tie_among_the_kept (hKernelIdeal := hKernelIdeal) (hPre_no_tie_among_the_kept := hPre_no_tie_among_the_kept)
    ∧ quiescent_ReferenceIdeal (hReferenceIdeal := hReferenceIdeal)
    ∧ quiescent_ReferenceIdeal_pre_no_tie_among_the_kept (hReferenceIdeal := hReferenceIdeal) (hPre_no_tie_among_the_kept := hPre_no_tie_among_the_kept)
    ∧ preserves_Kernel_KernelIdeal
    ∧ algebraic_KernelIdeal_ReferenceIdeal_pre_no_tie_among_the_kept (hKernelIdeal := hKernelIdeal) (hReferenceIdeal := hReferenceIdeal) (hPre_no_tie_among_the_kept := hPre_no_tie_among_the_kept)
-- ==== Pre_no_tie_among_the_kept.lean ====
abbrev S2x2048x1024 : Shape := ⟨3, ![2, 2048, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S2x2048x4096 : Shape := ⟨3, ![2, 2048, 4096]⟩
abbrev S1x1x4096 : Shape := ⟨3, ![1, 1, 4096]⟩
abbrev S2x2048x21 : Shape := ⟨3, ![2, 2048, 21]⟩
abbrev S2x2048x20 : Shape := ⟨3, ![2, 2048, 20]⟩
abbrev S2x2048x1 : Shape := ⟨3, ![2, 2048, 1]⟩
abbrev S_ : Shape := ⟨0, ![]⟩

class Facts : Prop where
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  sliceFits_S2x2048x4096_S2x2048x21 : S2x2048x4096.Slices (fun _ => 0) S2x2048x21
  slices_S2x2048x21_S2x2048x20_0_0_0 : S2x2048x21.Slices ![0, 0, 0] S2x2048x20
  slices_S2x2048x21_S2x2048x20_0_0_1 : S2x2048x21.Slices ![0, 0, 1] S2x2048x20
  slices_S2x2048x21_S2x2048x1_0_0_20 : S2x2048x21.Slices ![0, 0, 20] S2x2048x1
  bcast_S_S2x2048x1 : S_.BroadcastsInDim S2x2048x1 (![] : Fin 0 → Fin S2x2048x1.rank)
  bcast_S2x2048x1_S2x2048x20_0_1_2 : S2x2048x1.BroadcastsInDim S2x2048x20 (![0, 1, 2] : Fin 3 → Fin S2x2048x20.rank)
  dot_S2x2048x1024_S4096x1024_S2x2048x4096_2_1_01_0_n_n_wf : DotDims.WF S2x2048x1024 S4096x1024 S2x2048x4096 [2] [1] [0, 1] [0] [] []

variable [Facts]

def dot_S2x2048x1024_S4096x1024_S2x2048x4096_2_1_01_0_n_n : DotDims S2x2048x1024 S4096x1024 S2x2048x4096 where
  lhsContracting := [2]
  rhsContracting := [1]
  lhsNonContracting := [0, 1]
  rhsNonContracting := [0]
  lhsBatch := []
  rhsBatch := []
  wf := dot_S2x2048x1024_S4096x1024_S2x2048x4096_2_1_01_0_n_n_wf
def fn {F : FTy → Type} [FloatOps F] (main_arg0 : FVec F S2x2048x1024 .f32) (main_arg1 : FVec F S4096x1024 .f32) (main_arg2 : FVec F S4096 .f32) (main_arg3 : FVec F S1024x4096 .f32) (main_arg4 : FVec F S1024 .f32) : IVec S2x2048x20 1 :=
  let main_v0 : FVec F S2x2048x4096 .f32 := (fun l r => Host.dotGeneral dot_S2x2048x1024_S4096x1024_S2x2048x4096_2_1_01_0_n_n none l r) main_arg0 main_arg1
  let main_v1 : FVec F S1x1x4096 .f32 := broadcastInDim S1x1x4096 ![2] bcast_S4096_S1x1x4096_2 main_arg2
  let main_v2 : FVec F S2x2048x4096 .f32 := broadcastInDim S2x2048x4096 ![0, 1, 2] bcast_S1x1x4096_S2x2048x4096_0_1_2 main_v1
  let main_v3 : FVec F S2x2048x4096 .f32 := addf main_v0 main_v2
  let main_values : FVec F S2x2048x21 .f32 := (fun x => (Host.topK S2x2048x21 2 (FloatOps.cmpfTotal .gt) x sliceFits_S2x2048x4096_S2x2048x21).1) main_v3
  let main_indices : IVec S2x2048x21 32 := (fun x => (Host.topK S2x2048x21 2 (FloatOps.cmpfTotal .gt) x sliceFits_S2x2048x4096_S2x2048x21).2) main_v3
  let main_v4 : FVec F S2x2048x20 .f32 := (extractStridedSlice S2x2048x20 ![0, 0, 0] · slices_S2x2048x21_S2x2048x20_0_0_0) main_values
  let main_v5 : FVec F S2x2048x20 .f32 := (extractStridedSlice S2x2048x20 ![0, 0, 1] · slices_S2x2048x21_S2x2048x20_0_0_1) main_values
  let main_v6 : IVec S2x2048x20 1 := cmpf .ogt main_v4 main_v5
  let main_v7 : FVec F S2x2048x1 .f32 := (extractStridedSlice S2x2048x1 ![0, 0, 20] · slices_S2x2048x21_S2x2048x1_0_0_20) main_values
  let main_cst : FVec F S_ .f32 := constant S_ .f32 0x00000000#32
  let main_v8 : FVec F S2x2048x1 .f32 := broadcastInDim S2x2048x1 ![] bcast_S_S2x2048x1 main_cst
  let main_v9 : IVec S2x2048x1 1 := cmpf .ole main_v7 main_v8
  let main_v10 : IVec S2x2048x20 1 := broadcastInDim S2x2048x20 ![0, 1, 2] bcast_S2x2048x1_S2x2048x20_0_1_2 main_v9
  let main_v11 : IVec S2x2048x20 1 := ori main_v6 main_v10
  main_v11
-- ==== Kernel.lean ====
abbrev S2x2048x1024 : Shape := ⟨3, ![2, 2048, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S1x4096 : Shape := ⟨2, ![1, 4096]⟩
abbrev S1x1024 : Shape := ⟨2, ![1, 1024]⟩
abbrev S4096x4096 : Shape := ⟨2, ![4096, 4096]⟩
abbrev S256x1024 : Shape := ⟨2, ![256, 1024]⟩
abbrev S256x4096 : Shape := ⟨2, ![256, 4096]⟩
abbrev S256x256 : Shape := ⟨2, ![256, 256]⟩
abbrev S256 : Shape := ⟨1, ![256]⟩
abbrev S256x1 : Shape := ⟨2, ![256, 1]⟩
abbrev S1x256x256 : Shape := ⟨3, ![1, 256, 256]⟩
abbrev S1 : Shape := ⟨1, ![1]⟩
abbrev S1x1x1 : Shape := ⟨3, ![1, 1, 1]⟩
abbrev S2x2048x4096 : Shape := ⟨3, ![2, 2048, 4096]⟩

abbrev nBuf : Space → Nat
  | .hbm => 15
  | .vmem => 10
  | .smem => 0
  | _ => 0

abbrev bufTy : (tb : Table) → Fin (tcTables nBuf tb) → BufTy
  | .hbm, ⟨0, _⟩ => ⟨S2x2048x1024, .f32⟩
  | .hbm, ⟨1, _⟩ => ⟨S4096x1024, .f32⟩
  | .hbm, ⟨2, _⟩ => ⟨S4096, .f32⟩
  | .hbm, ⟨3, _⟩ => ⟨S1024x4096, .f32⟩
  | .hbm, ⟨4, _⟩ => ⟨S1024, .f32⟩
  | .hbm, ⟨5, _⟩ => ⟨S4096x1024, .f32⟩
  | .hbm, ⟨6, _⟩ => ⟨S4096x1024, .bf16⟩
  | .hbm, ⟨7, _⟩ => ⟨S4096x1024, .bf16⟩
  | .hbm, ⟨8, _⟩ => ⟨S1024x4096, .bf16⟩
  | .hbm, ⟨9, _⟩ => ⟨S1x4096, .f32⟩
  | .hbm, ⟨10, _⟩ => ⟨S1x1024, .f32⟩
  | .hbm, ⟨11, _⟩ => ⟨S4096x4096, .f32⟩
  | .hbm, ⟨12, _⟩ => ⟨S4096x1024, .f32⟩
  | .hbm, ⟨13, _⟩ => ⟨S2x2048x4096, .f32⟩
  | .hbm, ⟨14, _⟩ => ⟨S2x2048x1024, .f32⟩
  | .local _ .vmem, ⟨0, _⟩ => ⟨S256x1024, .bf16⟩
  | .local _ .vmem, ⟨1, _⟩ => ⟨S256x1024, .bf16⟩
  | .local _ .vmem, ⟨2, _⟩ => ⟨S4096x1024, .bf16⟩
  | .local _ .vmem, ⟨3, _⟩ => ⟨S1x4096, .f32⟩
  | .local _ .vmem, ⟨4, _⟩ => ⟨S1024x4096, .bf16⟩
  | .local _ .vmem, ⟨5, _⟩ => ⟨S1x1024, .f32⟩
  | .local _ .vmem, ⟨6, _⟩ => ⟨S256x4096, .f32⟩
  | .local _ .vmem, ⟨7, _⟩ => ⟨S256x4096, .f32⟩
  | .local _ .vmem, ⟨8, _⟩ => ⟨S256x1024, .f32⟩
  | .local _ .vmem, ⟨9, _⟩ => ⟨S256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2x2048x1024 : Shape := ⟨3, ![2, 2048, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S2x2048x4096 : Shape := ⟨3, ![2, 2048, 4096]⟩
abbrev S1x1x4096 : Shape := ⟨3, ![1, 1, 4096]⟩
abbrev S2x2048x20 : Shape := ⟨3, ![2, 2048, 20]⟩
abbrev S2 : Shape := ⟨1, ![2]⟩
abbrev S2x1x1 : Shape := ⟨3, ![2, 1, 1]⟩
abbrev S2048 : Shape := ⟨1, ![2048]⟩
abbrev S1x2048x1 : Shape := ⟨3, ![1, 2048, 1]⟩
abbrev S_ : Shape := ⟨0, ![]⟩
abbrev S2x2048x20x1 : Shape := ⟨4, ![2, 2048, 20, 1]⟩
abbrev S2x2048x20x3 : Shape := ⟨4, ![2, 2048, 20, 3]⟩
abbrev S1x1x1024 : Shape := ⟨3, ![1, 1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S4096x1024, .f32⟩
  | .hbm, ⟨2, _⟩ => ⟨S4096, .f32⟩
  | .hbm, ⟨3, _⟩ => ⟨S1024x4096, .f32⟩
  | .hbm, ⟨4, _⟩ => ⟨S1024, .f32⟩
  | .hbm, ⟨5, _⟩ => ⟨S2x2048x4096, .f32⟩
  | .hbm, ⟨6, _⟩ => ⟨S1x1x4096, .f32⟩
  | .hbm, ⟨7, _⟩ => ⟨S2x2048x4096, .f32⟩
  | .hbm, ⟨8, _⟩ => ⟨S2x2048x4096, .f32⟩
  | .hbm, ⟨9, _⟩ => ⟨S2x2048x20, .f32⟩
  | .hbm, ⟨10, _⟩ => ⟨S2x2048x20, .i32⟩
  | .hbm, ⟨11, _⟩ => ⟨S2, .i32⟩
  | .hbm, ⟨12, _⟩ => ⟨S2x1x1, .i32⟩
  | .hbm, ⟨13, _⟩ => ⟨S2048, .i32⟩
  | .hbm, ⟨14, _⟩ => ⟨S1x2048x1, .i32⟩
  | .hbm, ⟨15, _⟩ => ⟨S_, .f32⟩
  | .hbm, ⟨16, _⟩ => ⟨S2x2048x4096, .f32⟩
  | .hbm, ⟨17, _⟩ => ⟨S_, .f32⟩
  | .hbm, ⟨18, _⟩ => ⟨S2x2048x20, .f32⟩
  | .hbm, ⟨19, _⟩ => ⟨S2x2048x20, .f32⟩
  | .hbm, ⟨20, _⟩ => ⟨S_, .i32⟩
  | .hbm, ⟨21, _⟩ => ⟨S2x1x1, .i32⟩
  | .hbm, ⟨22, _⟩ => ⟨S2x1x1, .i1⟩
  | .hbm, ⟨23, _⟩ => ⟨S_, .i32⟩
  | .hbm, ⟨24, _⟩ => ⟨S2x1x1, .i32⟩
  | .hbm, ⟨25, _⟩ => ⟨S2x1x1, .i32⟩
  | .hbm, ⟨26, _⟩ => ⟨S2x1x1, .i32⟩
  | .hbm, ⟨27, _⟩ => ⟨S_, .i32⟩
  | .hbm, ⟨28, _⟩ => ⟨S1x2048x1, .i32⟩
  | .hbm, ⟨29, _⟩ => ⟨S1x2048x1, .i1⟩
  | .hbm, ⟨30, _⟩ => ⟨S_, .i32⟩
  | .hbm, ⟨31, _⟩ => ⟨S1x2048x1, .i32⟩
  | .hbm, ⟨32, _⟩ => ⟨S1x2048x1, .i32⟩
  | .hbm, ⟨33, _⟩ => ⟨S1x2048x1, .i32⟩
  | .hbm, ⟨34, _⟩ => ⟨S_, .i32⟩
  | .hbm, ⟨35, _⟩ => ⟨S2x2048x20, .i32⟩
  | .hbm, ⟨36, _⟩ => ⟨S2x2048x20, .i1⟩
  | .hbm, ⟨37, _⟩ => ⟨S_, .i32⟩
  | .hbm, ⟨38, _⟩ => ⟨S2x2048x20, .i32⟩
  | .hbm, ⟨39, _⟩ => ⟨S2x2048x20, .i32⟩
  | .hbm, ⟨40, _⟩ => ⟨S2x2048x20, .i32⟩
  | .hbm, ⟨41, _⟩ => ⟨S2x2048x20, .i32⟩
  | .hbm, ⟨42, _⟩ => ⟨S2x2048x20, .i32⟩
  | .hbm, ⟨43, _⟩ => ⟨S2x2048x20x1, .i32⟩
  | .hbm, ⟨44, _⟩ => ⟨S2x2048x20x1, .i32⟩
  | .hbm, ⟨45, _⟩ => ⟨S2x2048x20x1, .i32⟩
  | .hbm, ⟨46, _⟩ => ⟨S2x2048x20x3, .i32⟩
  | .hbm, ⟨47, _⟩ => ⟨S2x2048x4096, .f32⟩
  | .hbm, ⟨48, _⟩ => ⟨S2x2048x1024, .f32⟩
  | .hbm, ⟨49, _⟩ => ⟨S1x1x1024, .f32⟩
  | .hbm, ⟨50, _⟩ => ⟨S2x2048x1024, .f32⟩
  | .hbm, ⟨51, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_values : Ref sig .tc := ⟨.hbm, 9, rfl⟩
abbrev main_indices : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Proof.Threshold.lean ====
/-
  The kernel's body as one pure function of the three blocks it loads first. The printed body is cut into parts; all
  but the loads and the two stores is free of effects. `thresh` names the row threshold the conditional returns —
  the full search when some lane of the block ran out, the maximum of the registers otherwise — and
  `body_eq` states the printed body as its loads and stores around it.
-/
module

public import proofs.«01_k».proof.Proof.Gen.KernelIdeal.Skeleton

@[expose] public section

set_option maxRecDepth 65536

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

local notation "Blk" => FVec F S256x256 FTy.f32

/-- The search over the whole row: nineteen rounds, each masking every entry equal to the row's maximum, then the
    row's maximum. -/
def fullThresh (v8 : FVec F S256x4096 .f32) : FVec F S256x1 .f32 :=
  k0_pay177 (k0_pay5 (k0_pay3 v8) (k0_pay4 v8))

/-- What the conditional yields: the whole row's search where some lane of the block ended at `-∞`, the registers'
    maximum otherwise. -/
def condThresh (v8 : FVec F S256x4096 .f32) (v253 v254 v256 : Blk) (v260 : IVec S256x256 1) (v261 : Blk) :
    FVec F S256x1 .f32 :=
  if Scalar.cmpi .ne (Scalar.extui (Scalar.cmpf .ogt (k0_pay175 v253 v254 v256 v260 v261) (Scalar.ofBits .f32 0x00000000#32)) : BitVec 32) 0#32 = 1#1
  then fullThresh v8 else k0_pay176 v253 v254 v256 v260 v261

/-- The rounds' last stretch and the conditional. -/
def thresh7 (v8 : FVec F S256x4096 .f32) (v207 v208 v209 v211 : Blk) : FVec F S256x1 .f32 :=
  condThresh v8 (k0_pay169 v207 v208 v209 v211) (k0_pay170 v207 v208 v209 v211) (k0_pay171 v207 v208 v209 v211)
    (k0_pay172 v207 v208 v209 v211) (k0_pay173 v207 v208 v209 v211)

/-- From the rounds' middle stretch on. -/
def thresh6 (v8 : FVec F S256x4096 .f32) (v155 v157 : Blk) (v161 : IVec S256x256 1) (v162 v163 : Blk) : FVec F S256x1 .f32 :=
  thresh7 v8 (k0_pay143 v155 v157 v161 v162 v163) (k0_pay144 v155 v157 v161 v162 v163)
    (k0_pay145 v155 v157 v161 v162 v163) (k0_pay146 v155 v157 v161 v162 v163)

/-- From the end of the insertion on. -/
def thresh5 (v8 : FVec F S256x4096 .f32) (v22 v23 v24 v103 v105 v107 v109 v110 : Blk) : FVec F S256x1 .f32 :=
  thresh6 v8 (k0_pay115 v22 v23 v24 v103 v105 v107 v109 v110) (k0_pay116 v22 v23 v24 v103 v105 v107 v109 v110)
    (k0_pay117 v22 v23 v24 v103 v105 v107 v109 v110) (k0_pay118 v22 v23 v24 v103 v105 v107 v109 v110)
    (k0_pay119 v22 v23 v24 v103 v105 v107 v109 v110)

/-- From the middle of the insertion on. -/
def thresh4 (v8 : FVec F S256x4096 .f32) (v14 v15 v16 v17 v18 v19 v20 v21 v22 v23 v24 v44 v46 v47 v49 v50 : Blk) :
    FVec F S256x1 .f32 :=
  thresh5 v8 v22 v23 v24 (k0_pay80 v14 v15 v16 v17 v18 v19 v20 v21 v47) (k0_pay82 v14 v15 v16 v17 v18 v19 v20 v21 v47 v49)
    (k0_pay84 v14 v15 v16 v17 v18 v19 v20 v21 v44 v47 v49 v50)
    (k0_pay85 v14 v15 v16 v17 v18 v19 v20 v21 v44 v46 v47 v49 v50)
    (k0_pay86 v14 v15 v16 v17 v18 v19 v20 v21 v22 v47)

/-- The row threshold of a block, from the input block, the encoder's weights and its bias. -/
def thresh (v0 : Vec F S256x1024 .bf16) (v2 : Vec F S4096x1024 .bf16) (v5 : Vec F S1x4096 .f32) : FVec F S256x1 .f32 :=
  thresh4 (k0_pay6 v0 v2 v5) (k0_pay12 v0 v2 v5) (k0_pay13 v0 v2 v5) (k0_pay14 v0 v2 v5) (k0_pay15 v0 v2 v5)
    (k0_pay16 v0 v2 v5) (k0_pay17 v0 v2 v5) (k0_pay18 v0 v2 v5) (k0_pay19 v0 v2 v5) (k0_pay20 v0 v2 v5)
    (k0_pay21 v0 v2 v5) (k0_pay22 v0 v2 v5) (k0_pay38 v0 v2 v5) (k0_pay39 v0 v2 v5) (k0_pay40 v0 v2 v5)
    (k0_pay42 v0 v2 v5) (k0_pay43 v0 v2 v5)

/-- The block of the first result: the pre-activations at or above the clamped threshold, zero elsewhere. -/
def zBlock (v0 : Vec F S256x1024 .bf16) (v2 : Vec F S4096x1024 .bf16) (v5 : Vec F S1x4096 .f32) : FVec F S256x4096 .f32 :=
  k0_pay1 (k0_pay6 v0 v2 v5) (thresh v0 v2 v5) (Scalar.ofBits .f32 0x00000000#32)

/-- The block of the second result: the first's block decoded. -/
def xBlock (v0 : Vec F S256x1024 .bf16) (v2 : Vec F S4096x1024 .bf16) (v5 : Vec F S1x4096 .f32)
    (v315 : Vec F S1024x4096 .bf16) (v319 : Vec F S1x1024 .f32) : FVec F S256x1024 .f32 :=
  k0_pay2 (k0_pay6 v0 v2 v5) (thresh v0 v2 v5) (Scalar.ofBits .f32 0x00000000#32) v315 v319

section Body

variable (i : grid0.Coords) (arg1 : Memref sig .tc .vmem S256x1024 .bf16) (harg1 : arg1.IsWhole) (arg2 : Memref sig .tc .vmem S4096x1024 .bf16) (harg2 : arg2.IsWhole) (arg3 : Memref sig .tc .vmem S1x4096 .f32) (harg3 : arg3.IsWhole) (arg4 : Memref sig .tc .vmem S1024x4096 .bf16) (harg4 : arg4.IsWhole) (arg5 : Memref sig .tc .vmem S1x1024 .f32) (harg5 : arg5.IsWhole) (arg6 : Memref sig .tc .vmem S256x4096 .f32) (harg6 : arg6.IsWhole) (arg7 : Memref sig .tc .vmem S256x1024 .f32) (harg7 : arg7.IsWhole)

/-- The last part is the conditional's value. -/
theorem part8_eq (v8 : FVec F S256x4096 .f32) (v253 v254 v256 : Blk) (v260 : IVec S256x256 1) (v261 : Blk) :
    k0_part8 i arg1 harg1 arg2 harg2 arg3 harg3 arg4 harg4 arg5 harg5 arg6 harg6 arg7 harg7 v8 v253 v254 v256 v260 v261
      = pure ⟨condThresh v8 v253 v254 v256 v260 v261, Scalar.ofBits .f32 0x00000000#32⟩ := by
  rw [k0_part8_eq_skeleton]
  unfold k0_part8_skel condThresh fullThresh
  simp only []
  by_cases h : Scalar.cmpi .ne (Scalar.extui (Scalar.cmpf .ogt (k0_pay175 v253 v254 v256 v260 v261) (Scalar.ofBits .f32 0x00000000#32)) : BitVec 32) 0#32 = 1#1
  · rw [if_pos h, if_pos h, k0_part1_eq_skeleton, k0_part2_eq_skeleton]
    unfold k0_part1_skel k0_part2_skel
    simp only [pure_bind]
  · rw [if_neg h, if_neg h]
    simp only [pure_bind]

/-- The printed body: its loads and stores around the two blocks' values. -/
theorem body_eq :
    cc0__body (F := F) i arg1 harg1 arg2 harg2 arg3 harg3 arg4 harg4 arg5 harg5 arg6 harg6 arg7 harg7 = (do
      let v0 : Vec F S256x1024 .bf16 ← Prog.lift (.load arg1 (Rect.unit (s := S256x1024) ![0, 0] S256x1024.size inb_S256x1024_S256x1024_0_0).toLoadRect (View.loadsAt_vmem h_S256x1024))
      let v2 : Vec F S4096x1024 .bf16 ← Prog.lift (.load arg2 (Rect.unit (s := S4096x1024) ![0, 0] S4096x1024.size inb_S4096x1024_S4096x1024_0_0).toLoadRect (View.loadsAt_vmem h_S4096x1024))
      let v5 : Vec F S1x4096 .f32 ← Prog.lift (.load arg3 (Rect.unit (s := S1x4096) ![0, 0] S1x4096.size inb_S1x4096_S1x4096_0_0).toLoadRect (View.loadsAt_vmem h_S1x4096))
      let v314 : Vec F S256x4096 .f32 ← Prog.lift (.load arg6 (Rect.unit (s := S256x4096) ![0, 0] S256x4096.size inb_S256x4096_S256x4096_0_0).toLoadRect (View.loadsAt_vmem h_S256x4096))
      Prog.lift (.store arg6 (Rect.unit (s := S256x4096) ![0, 0] S256x4096.size inb_S256x4096_S256x4096_0_0) (zBlock v0 v2 v5) Finset.univ (View.stores_vmem_bits_univ h_S256x4096 rfl) (.inl rfl))
      let v315 : Vec F S1024x4096 .bf16 ← Prog.lift (.load arg4 (Rect.unit (s := S1024x4096) ![0, 0] S1024x4096.size inb_S1024x4096_S1024x4096_0_0).toLoadRect (View.loadsAt_vmem h_S1024x4096))
      let v319 : Vec F S1x1024 .f32 ← Prog.lift (.load arg5 (Rect.unit (s := S1x1024) ![0, 0] S1x1024.size inb_S1x1024_S1x1024_0_0).toLoadRect (View.loadsAt_vmem h_S1x1024))
      let v323 : Vec F S256x1024 .f32 ← Prog.lift (.load arg7 (Rect.unit (s := S256x1024) ![0, 0] S256x1024.size inb_S256x1024_S256x1024_0_0).toLoadRect (View.loadsAt_vmem h_S256x1024))
      Prog.lift (.store arg7 (Rect.unit (s := S256x1024) ![0, 0] S256x1024.size inb_S256x1024_S256x1024_0_0) (xBlock v0 v2 v5 v315 v319) Finset.univ (View.stores_vmem_bits_univ h_S256x1024 rfl) (.inl rfl))
      pure ⟨⟩) := by
  simp only [cc0__body_eq_skeleton]
  unfold cc0__body_skel
  simp only [part8_eq, k0_part3_eq_skeleton, k0_part4_eq_skeleton, k0_part5_eq_skeleton, k0_part6_eq_skeleton, k0_part7_eq_skeleton]
  unfold k0_part3_skel k0_part4_skel k0_part5_skel k0_part6_skel k0_part7_skel
  simp only [bind_assoc, pure_bind]
  rfl

end Body

end Cert.KernelIdeal.Hand

end
-- ==== Proof.Body.lean ====
/-
  The frame run of the kernel, once, over any values: the body's triple by symbolic execution of its loads and stores
  (the conditional is already inside the stored blocks, `body_eq`), the proof data of the one pipeline, and the launch
  with the host lines around it.
-/
module

public import proofs.«01_k».proof.Proof.Threshold
public import proofs.«01_k».proof.Proof.Gen.KernelIdeal.Frame
public import Idealize.ShloMosaic.Lib.Pipeline.Frame
public import Idealize.ShloMosaic.Lib.Pipeline.Value
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- Zero offsets, as the body spells them. -/
theorem zeros2 : (![0, 0] : Fin 2 → Nat) = fun _ => 0 := by
  funext a; fin_cases a <;> rfl

/-- A store of a whole buffer leaves its payload. -/
theorem read_stored {sp : Space} {S : Shape} {e : EltTy} (v : View sig .tc sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w :=
  (View.read_writes_eq_canon v f _ (fun y => ⟨_, List.mem_singleton_self _, View.mem_set_unit_zero h inb y⟩)).trans
    (View.canon_unit_zero h inb w)

/-- A load of a whole buffer reads its contents. -/
theorem read_loaded {sp : Space} {S : Shape} {e : EltTy} (v : View sig .tc sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  View.ld_unit_zero h inb (v.read (Elt F) f)

/-- The body's triple: from the five inputs' blocks and the two outputs at anything, the body leaves the inputs as
    they were and the outputs at `zBlock` and `xBlock` of them. -/
theorem sound_kernel (c : Dev nD) (i : grid0.Coords)
    (arg1 : Memref sig .tc .vmem S256x1024 .bf16) (harg1 : arg1.IsWhole) (arg2 : Memref sig .tc .vmem S4096x1024 .bf16) (harg2 : arg2.IsWhole) (arg3 : Memref sig .tc .vmem S1x4096 .f32) (harg3 : arg3.IsWhole) (arg4 : Memref sig .tc .vmem S1024x4096 .bf16) (harg4 : arg4.IsWhole) (arg5 : Memref sig .tc .vmem S1x1024 .f32) (harg5 : arg5.IsWhole) (arg6 : Memref sig .tc .vmem S256x4096 .f32) (harg6 : arg6.IsWhole) (arg7 : Memref sig .tc .vmem S256x1024 .f32) (harg7 : arg7.IsWhole)
    (x1 : Vec F S256x1024 .bf16) (x2 : Vec F S4096x1024 .bf16) (x3 : Vec F S1x4096 .f32) (x4 : Vec F S1024x4096 .bf16)
    (x5 : Vec F S1x1024 .f32) (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5
        ∗ (∃ d, owns (c : Thread nD τ) arg6 fullShare d) ∗ (∃ d, owns (c : Thread nD τ) arg7 fullShare d)
        ∗ (iprop(owns (c : Thread nD τ) arg1 fullShare x1 ∗ owns (c : Thread nD τ) arg2 fullShare x2
              ∗ owns (c : Thread nD τ) arg3 fullShare x3 ∗ owns (c : Thread nD τ) arg4 fullShare x4
              ∗ owns (c : Thread nD τ) arg5 fullShare x5
              ∗ owns (c : Thread nD τ) arg6 fullShare (zBlock x1 x2 x3)
              ∗ owns (c : Thread nD τ) arg7 fullShare (xBlock x1 x2 x3 x4 x5)) -∗ K ⟨⟩))
      ⊢ wp frame (wpE (defs₀ (F := F)) Variants.none c none) Set.univ
          (cc0__body i arg1 harg1 arg2 harg2 arg3 harg3 arg4 harg4 arg5 harg5 arg6 harg6 arg7 harg7) K := by
  rw [body_eq]
  unfold owns
  iintro ⟨⟨%f1, %h1, H1⟩, ⟨%f2, %h2, H2⟩, ⟨%f3, %h3, H3⟩, ⟨%f4, %h4, H4⟩, ⟨%f5, %h5, H5⟩, ⟨%d6, %f6, -, H6⟩, ⟨%d7, %f7, -, H7⟩, Hk⟩
  subst h1 h2 h3 h4 h5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (read_stored _ _ zeros2 _ _).trans ?_
    repeat rw [read_loaded _ _ zeros2]
  · iexists _; isplitr
    swap; · iexact H7
    ipureintro
    refine (read_stored _ _ zeros2 _ _).trans ?_
    repeat rw [read_loaded _ _ zeros2]

/-- The proof data of the one pipeline on core `c`: the arrays as the region finds them; after the body at a point each
    input's buffer at its block and the outputs' at the two blocks computed from them; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => zBlock (iblk m c 0 t) (iblk m c 1 t) (iblk m c 2 t)
    | ⟨6, _⟩ => xBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := rfl
theorem after_1 (c : Dev nD) (t : Fin cfg0.N) : (dats m 0 c).after 1 t = iblk m c 1 t := rfl
theorem after_2 (c : Dev nD) (t : Fin cfg0.N) : (dats m 0 c).after 2 t = iblk m c 2 t := rfl
theorem after_3 (c : Dev nD) (t : Fin cfg0.N) : (dats m 0 c).after 3 t = iblk m c 3 t := rfl
theorem after_4 (c : Dev nD) (t : Fin cfg0.N) : (dats m 0 c).after 4 t = iblk m c 4 t := rfl
theorem after_5 (c : Dev nD) (t : Fin cfg0.N) :
    (dats m 0 c).after 5 t = zBlock (iblk m c 0 t) (iblk m c 1 t) (iblk m c 2 t) := rfl
theorem after_6 (c : Dev nD) (t : Fin cfg0.N) :
    (dats m 0 c).after 6 t = xBlock (iblk m c 0 t) (iblk m c 1 t) (iblk m c 2 t) (iblk m c 3 t) (iblk m c 4 t) := rfl

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns there. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at a point: its triple at the staging buffers there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body there. -/
theorem defs₀_row (t : Fin cfg0.N) :
    defs₀ (F := F) .tc cfg0.body (cfg0.bodyArgs t (cfg0.slots t)) = bodyAt0 t := by
  unfold defs₀; rw [Defs.onTc_tc]

/-- The pipeline's body obligation. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: from any memory with zero counters every weakly fair execution ends, with every buffer at what the region
    and the host lines after it leave and every counter at zero. -/
theorem run_main :
    θ_run defs (onTc (τ := τ) (main (F := F))) (s₀ m ρ)
      (fun r => Pipeline.FramePost cfgs (dats m) 0 (Pipeline.afterTail₀ cfgs (dats m) 0 (V0 m) [hostOps1]) r
        ∧ r.2.sem = fun _ => 0) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl) (Q' := _) (hQ' := fun _ h => h)

/-- The frame: the arguments end as launched and every counter ends at zero. -/
theorem frame_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(((h.1 c).2 main_arg0 (Pipeline.mem_restRefs_of main_arg0 (by decide) (by decide))).trans (W_main_arg0 m (dats m) c)),
     (((h.1 c).2 main_arg1 (Pipeline.mem_restRefs_of main_arg1 (by decide) (by decide))).trans (W_main_arg1 m (dats m) c)),
     (((h.1 c).2 main_arg2 (Pipeline.mem_restRefs_of main_arg2 (by decide) (by decide))).trans (W_main_arg2 m (dats m) c)),
     (((h.1 c).2 main_arg3 (Pipeline.mem_restRefs_of main_arg3 (by decide) (by decide))).trans (W_main_arg3 m (dats m) c)),
     (((h.1 c).2 main_arg4 (Pipeline.mem_restRefs_of main_arg4 (by decide) (by decide))).trans (W_main_arg4 m (dats m) c))⟩, h.2⟩)
    (run_main m ρ)

end Cert.KernelIdeal.Hand

end
-- ==== Proof.Frames.lean ====
/-
  The three frames: the kernel's two from the one run of Body.lean, the reference's from its generated run and the
  absence of any semaphore in it.
-/
module

public import proofs.«01_k».proof.Defs
public import proofs.«01_k».proof.Proof.Body
public import proofs.«01_k».proof.Proof.Gen.Kernel
public import proofs.«01_k».proof.Proof.Gen.KernelIdeal
public import proofs.«01_k».proof.Proof.Gen.ReferenceIdeal.Run
public import Idealize.ShloMosaic.Lib.Quiescent

@[expose] public section

set_option maxRecDepth 65536

noncomputable section

namespace Cert.Proof

open Idealize.ShloMosaic Idealize.SL.Sem

/-- The kernel's bodies are the idealized kernel's. -/
theorem defs₀_eq : Cert.Kernel.defs₀ (F := Bits) = Cert.KernelIdeal.defs₀ := by
  unfold Cert.Kernel.defs₀ Cert.KernelIdeal.defs₀
  refine congrArg Defs.onTc (funext fun l => funext fun a => ?_)
  match l, a with
  | 0, (t, s) =>
    show Cert.Kernel.cc0__body _ _ _ _ _ _ _ _ _ _ _ _ _ _ _ = Cert.KernelIdeal.cc0__body _ _ _ _ _ _ _ _ _ _ _ _ _ _ _
    rfl

/-- The kernel's body table is the idealized kernel's. -/
theorem defs_eq : Cert.Kernel.defs (F := Bits) = Cert.KernelIdeal.defs :=
  congrArg (Pipeline.defs Cert.KernelIdeal.pcfgs) defs₀_eq

/-- The kernel's frame: its text is the idealized kernel's, so the one run over any values serves. -/
theorem frame_kernel : Cert.quiescent_Kernel := fun m ρ _ => by
  have h := Cert.KernelIdeal.Hand.frame_main (F := Bits) m ρ
  rw [defs_eq]
  exact h

/-- The idealized kernel's frame. -/
theorem frame_ideal : Cert.quiescent_KernelIdeal := fun m ρ _ =>
  Cert.KernelIdeal.Hand.frame_main (F := Ideal) m ρ

/-- The reference's frame: its arguments are never written, and it declares no semaphore. -/
theorem frame_reference : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

end Cert.Proof

end
-- ==== Proof.Stages.lean ====
/-
  The threshold's registers step by step. A block's four registers per lane take in one slice at a time (`insV`), then
  pop where they hold the row's maximum (`popV`); the printed body's stretches are exactly these steps.
-/
module

public import proofs.«01_k».proof.Proof.Threshold

@[expose] public section

set_option maxRecDepth 65536

noncomputable section

namespace Cert.KernelIdeal.Hand

open Cert.KernelIdeal Cert.KernelIdeal.Gen
open Idealize.ShloMosaic Idealize.ShloMosaic.TcCoe

variable {F : FTy → Type} [FloatOps F]

/-- A block of 256 rows by 256 lanes. -/
abbrev Blk (F : FTy → Type) := FVec F S256x256 FTy.f32

/-- The block of `-∞`. -/
def negV : Blk F := broadcast S256x256 (Scalar.ofBits .f32 0xFF800000#32)

/-- A block's registers, the greatest first. -/
structure Regs (F : FTy → Type) where
  /-- the greatest -/
  r0 : Blk F
  /-- the second -/
  r1 : Blk F
  /-- the third -/
  r2 : Blk F
  /-- the fourth -/
  r3 : Blk F

/-- One slice inserted. -/
def insV (R : Regs F) (x : Blk F) : Regs F :=
  let a := minimumf R.r0 x
  let b := minimumf R.r1 a
  let c := minimumf R.r2 b
  ⟨maximumf R.r0 x, maximumf R.r1 a, maximumf R.r2 b, maximumf R.r3 c⟩

/-- The rows' maxima. -/
def rowMax (v : Blk F) : FVec F S256x1 .f32 :=
  shapeCast S256x1 (multiReduction .maximumf [1] S256 v 0xFF800000#32 reduces_S256x256_S256 (.inl rfl) rfl) shapeCasts_S256_S256x1

/-- Where a lane holds its row's maximum. -/
def selV (v : Blk F) : IVec S256x256 1 :=
  cmpf .oeq v (broadcastTo S256x256 (rowMax v) broadcasts_S256x1_S256x256)

/-- One round: the lanes holding their row's maximum move their registers up. -/
def popV (R : Regs F) : Regs F :=
  ⟨select (selV R.r0) R.r1 R.r0, select (selV R.r0) R.r2 R.r1, select (selV R.r0) R.r3 R.r2, select (selV R.r0) negV R.r3⟩

/-- A lane marked one where it ran out. -/
def ranOut (v : Blk F) : Blk F :=
  select (cmpf .oeq v negV) (broadcast S256x256 (Scalar.ofBits .f32 0x3F800000#32)) (broadcast S256x256 (Scalar.ofBits .f32 0x00000000#32))

/-- The greatest mark of the block. -/
def anyOut (v : Blk F) : F .f32 :=
  extractAt ![0, 0, 0] (shapeCast S1x1x1 (multiReduction .maximumf [1, 2] S1
    (shapeCast S1x256x256 (ranOut v) shapeCasts_S256x256_S1x256x256) 0xFF800000#32 reduces_S1x256x256_S1 (.inl rfl) rfl)
    shapeCasts_S1_S1x1x1) inpos_S1x1x1_p0_0_0

/-- The threshold from the registers after the rounds: the whole row's search where some lane of the block ran out, the
    greatest registers' maximum otherwise. -/
def finV (v8 : FVec F S256x4096 .f32) (c : Blk F) : FVec F S256x1 .f32 :=
  if Scalar.cmpi .ne (Scalar.extui (Scalar.cmpf .ogt (anyOut c) (Scalar.ofBits .f32 0x00000000#32)) : BitVec 32) 0#32 = 1#1
  then fullThresh v8 else rowMax c

/-- Slice `k` of a row's sixteen, from its offset. -/
def sliceV (v8 : FVec F S256x4096 .f32) (o : Nat) (h : S256x4096.Slices ![0, o] S256x256 := by decide) : Blk F :=
  extractStridedSlice S256x256 ![0, o] v8 h

/-- The registers after every slice is in. -/
def regs (v8 : FVec F S256x4096 .f32) : Regs F :=
  [sliceV v8 256, sliceV v8 512, sliceV v8 768, sliceV v8 1024, sliceV v8 1280, sliceV v8 1536, sliceV v8 1792, sliceV v8 2048,
    sliceV v8 2304, sliceV v8 2560, sliceV v8 2816, sliceV v8 3072, sliceV v8 3328, sliceV v8 3584, sliceV v8 3840].foldl
    insV ⟨sliceV v8 0, negV, negV, negV⟩

/-- The rows' maxima of the whole. -/
def rowMaxF (v : FVec F S256x4096 .f32) : FVec F S256x1 .f32 :=
  shapeCast S256x1 (multiReduction .maximumf [1] S256 v 0xFF800000#32 reduces_S256x4096_S256 (.inl rfl) rfl) shapeCasts_S256_S256x1

/-- One round of the whole row's search: every entry equal to its row's maximum becomes `-∞`. -/
def maskF (v : FVec F S256x4096 .f32) : FVec F S256x4096 .f32 :=
  select (cmpf .oeq v (broadcastTo S256x4096 (rowMaxF v) broadcasts_S256x1_S256x4096))
    (broadcast S256x4096 (Scalar.ofBits .f32 0xFF800000#32)) v

/-- The whole row's search is nineteen rounds and a maximum. -/
theorem fullThresh_eq (v8 : FVec F S256x4096 .f32) : fullThresh v8 = rowMaxF (maskF^[19] v8) := rfl

/-- The end of the rounds. -/
theorem condThresh_eq (v8 : FVec F S256x4096 .f32) (R : Regs F) :
    condThresh v8 R.r1 R.r2 R.r3 (selV R.r0) (popV R).r0 = finV v8 (popV^[5] R).r0 := rfl

/-- The last ten rounds. -/
theorem thresh7_eq (v8 : FVec F S256x4096 .f32) (R : Regs F) :
    thresh7 v8 R.r0 R.r1 R.r2 R.r3 = finV v8 (popV^[10] R).r0 := by
  exact condThresh_eq v8 (popV^[5] R)

/-- The last sixteen rounds. -/
theorem thresh6_eq (v8 : FVec F S256x4096 .f32) (R : Regs F) :
    thresh6 v8 R.r2 R.r3 (selV R.r0) (popV R).r0 (popV R).r1 = finV v8 (popV^[16] R).r0 := by
  exact thresh7_eq v8 (popV^[6] R)

/-- The last three slices and the rounds. -/
theorem thresh5_eq (v8 : FVec F S256x4096 .f32) (R : Regs F) (x y z : Blk F) :
    thresh5 v8 x y z R.r0 R.r1 R.r2 R.r3 (maximumf R.r0 x) = finV v8 (popV^[19] (insV (insV (insV R x) y) z)).r0 := by
  exact thresh6_eq v8 (popV^[3] (insV (insV (insV R x) y) z))

/-- The last eleven slices and the rounds; the third and fourth registers are handed over unfinished. -/
theorem thresh4_eq (v8 : FVec F S256x4096 .f32) (a b c d e f g h x y z v44 v46 v47 v49 v50 : Blk F) :
    thresh4 v8 a b c d e f g h x y z v44 v46 v47 v49 v50
      = finV v8 (popV^[19] ([a, b, c, d, e, f, g, h, x, y, z].foldl insV
          ⟨v47, v49, maximumf v44 v50, maximumf v46 (minimumf v44 v50)⟩)).r0 := by
  exact thresh5_eq v8 ([a, b, c, d, e, f, g, h].foldl insV
    ⟨v47, v49, maximumf v44 v50, maximumf v46 (minimumf v44 v50)⟩) x y z

/-- The first five slices, the third and fourth registers unfinished. -/
theorem first_eq (v0 : Vec F S256x1024 .bf16) (v2 : Vec F S4096x1024 .bf16) (v5 : Vec F S1x4096 .f32) :
    (⟨k0_pay40 v0 v2 v5, k0_pay42 v0 v2 v5, maximumf (k0_pay38 v0 v2 v5) (k0_pay43 v0 v2 v5),
      maximumf (k0_pay39 v0 v2 v5) (minimumf (k0_pay38 v0 v2 v5) (k0_pay43 v0 v2 v5))⟩ : Regs F)
      = [k0_pay8 v0 v2 v5, k0_pay9 v0 v2 v5, k0_pay10 v0 v2 v5, k0_pay11 v0 v2 v5].foldl insV
          ⟨k0_pay7 v0 v2 v5, negV, negV, negV⟩ := rfl

/-- The threshold of a block: its registers filled, popped nineteen times, and the conditional. -/
theorem thresh_eq (v0 : Vec F S256x1024 .bf16) (v2 : Vec F S4096x1024 .bf16) (v5 : Vec F S1x4096 .f32) :
    thresh v0 v2 v5 = finV (k0_pay6 v0 v2 v5) (popV^[19] (regs (k0_pay6 v0 v2 v5))).r0 := by
  unfold thresh
  rw [thresh4_eq, first_eq, ← List.foldl_append]
  rfl

end Cert.KernelIdeal.Hand

end
-- ==== Proof.Rank.lean ====
/-
  Threshold search by rounds, without any array. A row `v` is searched by rounds that each take a greatest remaining
  value and drop entries holding it; where no positive value among the first twenty is tied, or at most twenty are
  positive, an entry with a positive value reaches the twentieth round's value exactly if fewer than twenty entries
  exceed it.
-/
module

public import Mathlib.Order.Lattice
public import Mathlib.Data.Finset.Card
public import Mathlib.Data.Fintype.Card

@[expose] public section

namespace Cert.Rank

variable {ι α : Type} [Fintype ι] [DecidableEq ι] [LinearOrder α]

/-- How many entries of the row exceed `x`. -/
def above (v : ι → α) (x : α) : Nat := (Finset.univ.filter fun j => x < v j).card

/-- No value greater than `z` among the first twenty is held twice. -/
def Untied (v : ι → α) (z : α) : Prop := ∀ i j, i ≠ j → z < v i → v i = v j → 20 ≤ above v (v i)

/-- The twenty greatest entries above `z` are determined: at most twenty are above `z`, or no value above `z` among the
    first twenty is held twice. -/
def Settled (v : ι → α) (z : α) : Prop := above v z ≤ 20 ∨ Untied v z

omit [DecidableEq ι] in
/-- Fewer entries exceed a value held above `z` than exceed `z`. -/
theorem above_lt (v : ι → α) {z : α} {i : ι} (h : z < v i) : above v (v i) < above v z := by
  refine Finset.card_lt_card ⟨fun j hj => ?_, fun hs => ?_⟩
  · exact Finset.mem_filter.2 ⟨Finset.mem_univ j, h.trans (Finset.mem_filter.1 hj).2⟩
  · exact lt_irrefl _ (Finset.mem_filter.1 (hs (Finset.mem_filter.2 ⟨Finset.mem_univ i, h⟩))).2

/-- Nineteen rounds: `S k` the entries dropped before round `k`, `m k` the value round `k` finds. -/
structure Rounds (v : ι → α) (z : α) (S : Nat → Finset ι) (m : Nat → α) : Prop where
  /-- nothing is dropped at first -/
  zero : S 0 = ∅
  /-- what remains does not exceed the value found -/
  bound : ∀ k, k ≤ 19 → ∀ j, j ∉ S k → v j ≤ m k
  /-- what was dropped stays dropped -/
  sub : ∀ k, k < 19 → S k ⊆ S (k + 1)
  /-- a round drops only entries holding its value -/
  val : ∀ k, k < 19 → ∀ j, j ∈ S (k + 1) → j ∉ S k → v j = m k
  /-- a value above `z` is held by an entry that remains -/
  att : ∀ k, k ≤ 19 → z < m k → ∃ j, j ∉ S k ∧ v j = m k
  /-- a round whose value is above `z` drops an entry -/
  prog : ∀ k, k < 19 → z < m k → ∃ j, j ∈ S (k + 1) ∧ j ∉ S k

variable {v : ι → α} {z : α} {S : Nat → Finset ι} {m : Nat → α}

/-- The values found do not grow. -/
theorem Rounds.step (h : Rounds v z S m) {k : Nat} (hk : k < 19) (hz : z < m (k + 1)) : m (k + 1) ≤ m k := by
  obtain ⟨j, hj, e⟩ := h.att (k + 1) hk hz
  rw [← e]
  exact h.bound k hk.le j fun hm => hj (h.sub k hk hm)

/-- A dropped entry holds at least the value found next. -/
theorem Rounds.ge (h : Rounds v z S m) : ∀ k, k ≤ 19 → z < m k → ∀ j, j ∈ S k → m k ≤ v j
  | 0, _, _, j, hj => by rw [h.zero] at hj; exact absurd hj (Finset.notMem_empty j)
  | k + 1, hk, hz, j, hj => by
    have hs := h.step (Nat.lt_of_succ_le hk) hz
    by_cases hm : j ∈ S k
    · exact hs.trans (h.ge k (Nat.le_of_succ_le hk) (hz.trans_le hs) j hm)
    · rw [h.val k (Nat.lt_of_succ_le hk) j hj hm]; exact hs

/-- While the values found stay above `x`, every round has dropped an entry above `x`. -/
theorem Rounds.many (h : Rounds v z S m) (x : α) (hx : z ≤ x) :
    ∀ k, k ≤ 19 → x < m k → k ≤ (S k).card
  | 0, _, _ => Nat.zero_le _
  | k + 1, hk, hm => by
    have hs := h.step (Nat.lt_of_succ_le hk) (hx.trans_lt hm)
    have hc := h.many x hx k (Nat.le_of_succ_le hk) (hm.trans_le hs)
    obtain ⟨j, hj, hn⟩ := h.prog k (Nat.lt_of_succ_le hk) (hx.trans_lt (hm.trans_le hs))
    have : (S k).card < (S (k + 1)).card :=
      Finset.card_lt_card ⟨h.sub k (Nat.lt_of_succ_le hk), fun hsub => hn (hsub hj)⟩
    omega

/-- A value the last round exceeds is exceeded by twenty entries. -/
theorem Rounds.lower (h : Rounds v z S m) (x : α) (hx : z ≤ x) (hm : x < m 19) : 20 ≤ above v x := by
  have hc := h.many x hx 19 le_rfl hm
  obtain ⟨j, hj, e⟩ := h.att 19 le_rfl (hx.trans_lt hm)
  have hsub : insert j (S 19) ⊆ Finset.univ.filter fun i => x < v i := by
    intro i hi
    rw [Finset.mem_filter]
    refine ⟨Finset.mem_univ i, ?_⟩
    rcases Finset.mem_insert.1 hi with rfl | hi
    · rw [e]; exact hm
    · exact hm.trans_le (h.ge 19 le_rfl (hx.trans_lt hm) i hi)
  have := Finset.card_le_card hsub
  rw [Finset.card_insert_of_notMem hj] at this
  unfold above
  omega

/-- A value above `z` that round `k` does not exceed is exceeded by at most `k` entries. -/
theorem Rounds.upper (h : Rounds v z S m) (hu : Untied v z) :
    ∀ k, k ≤ 19 → ∀ x, z < x → m k ≤ x → above v x ≤ k
  | 0, _, x, _, hm => by
    have : (Finset.univ.filter fun j => x < v j) = ∅ := by
      refine Finset.filter_eq_empty_iff.2 fun j _ => ?_
      exact not_lt.2 ((h.bound 0 (Nat.zero_le _) j (by rw [h.zero]; exact Finset.notMem_empty j)).trans hm)
    unfold above
    rw [this, Finset.card_empty]
  | k + 1, hk, x, hx, hm => by
    have hk' : k < 19 := Nat.lt_of_succ_le hk
    by_cases hmk : m k ≤ x
    · exact (h.upper hu k hk'.le x hx hmk).trans (Nat.le_succ k)
    · have hmk : x < m k := not_le.1 hmk
      have hz : z < m k := hx.trans hmk
      have hr := h.upper hu k hk'.le (m k) hz le_rfl
      obtain ⟨j, hj, e⟩ := h.att k hk'.le hz
      have huniq : ∀ l, v l = m k → l = j := by
        intro l hl
        by_contra hne
        have := hu j l (Ne.symm hne) (by rw [e]; exact hz) (by rw [e, hl])
        rw [e] at this
        omega
      have hsub : (Finset.univ.filter fun i => x < v i) ⊆ insert j (Finset.univ.filter fun i => m k < v i) := by
        intro i hi
        have hi := (Finset.mem_filter.1 hi).2
        have hin : i ∈ S (k + 1) := by
          by_contra hn
          exact absurd ((h.bound (k + 1) hk i hn).trans hm) (not_le.2 hi)
        have hge : m k ≤ v i := by
          by_cases hik : i ∈ S k
          · exact h.ge k hk'.le hz i hik
          · exact (h.val k hk' i hin hik).ge
        rcases hge.eq_or_lt with he | hlt
        · exact Finset.mem_insert.2 (Or.inl (huniq i he.symm))
        · exact Finset.mem_insert.2 (Or.inr (Finset.mem_filter.2 ⟨Finset.mem_univ i, hlt⟩))
      have := (Finset.card_le_card hsub).trans (Finset.card_insert_le _ _)
      unfold above at hr ⊢
      omega

/-- The last round's value cuts the row after its twenty greatest, among the entries above `z`. -/
theorem Rounds.cut (h : Rounds v z S m) (hu : Settled v z) (i : ι) (hi : z < v i) : m 19 ≤ v i ↔ above v (v i) < 20 := by
  constructor
  · intro hm
    rcases hu with hu | hu
    · exact (above_lt v hi).trans_le hu
    · exact Nat.lt_succ_of_le (h.upper hu 19 le_rfl (v i) hi hm)
  · intro hr
    by_contra hm
    have := h.lower (v i) hi.le (not_le.1 hm)
    omega

end Cert.Rank

end
-- ==== Proof.Search.lean ====
/-
  The two searches as rounds. `mask` is the whole row's: each round lowers every entry holding the greatest value to
  the bottom. `pop` is the lanes': each lane's values stand in a queue, the greatest first, and each round takes the
  front of every lane whose front is the greatest; it is the same search as long as no lane runs out of its first four.
-/
module

public import proofs.«01_k».proof.Proof.Rank
public import Idealize.ShloMosaic.Lib.SortFacts
public import Mathlib.Order.Interval.Finset.Fin
public import Mathlib.Data.Finset.Lattice.Fold
public import Mathlib.Data.Fintype.Prod

@[expose] public section

namespace Cert.Rank

open Idealize.ShloMosaic

section Mask

variable {ι α : Type} [Fintype ι] [LinearOrder α] [OrderBot α]

/-- The greatest value of a row. -/
def top (w : ι → α) : α := Finset.univ.sup w

theorem le_top' (w : ι → α) (j : ι) : w j ≤ top w := Finset.le_sup (Finset.mem_univ j)

/-- The greatest value is held. -/
theorem exists_top [Nonempty ι] (w : ι → α) : ∃ j, w j = top w := by
  obtain ⟨j, _, e⟩ := Finset.exists_mem_eq_sup Finset.univ Finset.univ_nonempty w
  exact ⟨j, e.symm⟩

/-- One round over a whole row. -/
def mask (w : ι → α) (j : ι) : α := if w j = top w then ⊥ else w j

/-- The entries masked before round `k`. -/
noncomputable def masked (v : ι → α) (k : Nat) : Finset ι :=
  open Classical in Finset.univ.filter fun j => ∃ k', k' < k ∧ (mask^[k'] v) j = top (mask^[k'] v)

theorem mem_masked (v : ι → α) (k : Nat) (j : ι) :
    j ∈ masked v k ↔ ∃ k', k' < k ∧ (mask^[k'] v) j = top (mask^[k'] v) := by
  unfold masked
  rw [Finset.mem_filter]
  exact ⟨fun h => h.2, fun h => ⟨Finset.mem_univ j, h⟩⟩

/-- An entry not masked keeps its value. -/
theorem mask_keep (v : ι → α) : ∀ (k : Nat) (j : ι), j ∉ masked v k → (mask^[k] v) j = v j
  | 0, _, _ => rfl
  | k + 1, j, hj => by
    have hk : j ∉ masked v k := fun h => hj (by
      obtain ⟨k', hk', e⟩ := (mem_masked v k j).1 h
      exact (mem_masked v (k + 1) j).2 ⟨k', Nat.lt_succ_of_lt hk', e⟩)
    have hne : (mask^[k] v) j ≠ top (mask^[k] v) := fun e =>
      hj ((mem_masked v (k + 1) j).2 ⟨k, Nat.lt_succ_self k, e⟩)
    rw [Function.iterate_succ_apply']
    show (if _ then _ else _) = _
    rw [if_neg hne, mask_keep v k j hk]

/-- A masked entry is at the bottom. -/
theorem mask_bot (v : ι → α) : ∀ (k : Nat) (j : ι), j ∈ masked v k → (mask^[k] v) j = ⊥
  | 0, j, hj => by
    obtain ⟨k', hk', _⟩ := (mem_masked v 0 j).1 hj
    exact absurd hk' (Nat.not_lt_zero k')
  | k + 1, j, hj => by
    rw [Function.iterate_succ_apply']
    show (if _ then _ else _) = _
    by_cases he : (mask^[k] v) j = top (mask^[k] v)
    · rw [if_pos he]
    · rw [if_neg he]
      refine mask_bot v k j ?_
      obtain ⟨k', hk', e⟩ := (mem_masked v (k + 1) j).1 hj
      rcases Nat.lt_succ_iff_lt_or_eq.1 hk' with h | h
      · exact (mem_masked v k j).2 ⟨k', h, e⟩
      · rw [h] at e; exact absurd e he

/-- The whole row's search is rounds. -/
theorem mask_rounds [DecidableEq ι] [Nonempty ι] (v : ι → α) (z : α) :
    Rounds v z (masked v) (fun k => top (mask^[k] v)) where
  zero := Finset.eq_empty_iff_forall_notMem.2 fun j hj => by
    obtain ⟨k', hk', _⟩ := (mem_masked v 0 j).1 hj
    exact absurd hk' (Nat.not_lt_zero k')
  bound k _ j hj := by rw [← mask_keep v k j hj]; exact le_top' _ j
  sub k _ j hj := by
    obtain ⟨k', hk', e⟩ := (mem_masked v k j).1 hj
    exact (mem_masked v (k + 1) j).2 ⟨k', Nat.lt_succ_of_lt hk', e⟩
  val k _ j hj hn := by
    obtain ⟨k', hk', e⟩ := (mem_masked v (k + 1) j).1 hj
    rcases Nat.lt_succ_iff_lt_or_eq.1 hk' with h | h
    · exact absurd ((mem_masked v k j).2 ⟨k', h, e⟩) hn
    · subst h
      rw [← mask_keep v k' j hn, e]
  att k _ hz := by
    obtain ⟨j, e⟩ := exists_top (mask^[k] v)
    have hn : j ∉ masked v k := fun h => by
      rw [mask_bot v k j h] at e
      rw [← e] at hz
      exact absurd hz not_lt_bot
    exact ⟨j, hn, by rw [← mask_keep v k j hn, e]⟩
  prog k _ hz := by
    obtain ⟨j, e⟩ := exists_top (mask^[k] v)
    refine ⟨j, (mem_masked v (k + 1) j).2 ⟨k, Nat.lt_succ_self k, e⟩, fun h => ?_⟩
    rw [mask_bot v k j h] at e
    rw [← e] at hz
    exact absurd hz not_lt_bot

end Mask

section Pop

variable {L α : Type} [Fintype L] [LinearOrder α] [OrderBot α]

/-- One round over the lanes' queues. -/
def pop (s : Nat → L → α) (r : Nat) (l : L) : α := if s 0 l = top (s 0) then s (r + 1) l else s r l

/-- How many values each lane has given before round `k`. -/
def given (s : Nat → L → α) : Nat → L → Nat
  | 0, _ => 0
  | k + 1, l => given s k l + if s (given s k l) l = top (fun l' => s (given s k l') l') then 1 else 0

/-- The queues before round `k` are the first ones moved on. -/
theorem pop_iter (s : Nat → L → α) : ∀ (k r : Nat) (l : L), (pop^[k] s) r l = s (given s k l + r) l
  | 0, r, l => by show s r l = s (0 + r) l; rw [Nat.zero_add]
  | k + 1, r, l => by
    rw [Function.iterate_succ_apply']
    show (if _ then _ else _) = _
    have h0 : (pop^[k] s) 0 = fun l' => s (given s k l') l' := funext fun l' => pop_iter s k 0 l'
    rw [h0, pop_iter s k (r + 1) l, pop_iter s k r l]
    show _ = s (given s k l + (if _ then 1 else 0) + r) l
    by_cases he : s (given s k l) l = top fun l' => s (given s k l') l'
    · rw [if_pos he, if_pos he, Nat.add_assoc, Nat.add_comm 1 r]
    · rw [if_neg he, if_neg he, Nat.add_zero]

theorem given_mono (s : Nat → L → α) (l : L) {k k' : Nat} (h : k ≤ k') : given s k l ≤ given s k' l := by
  induction h with
  | refl => exact le_rfl
  | step _ ih => exact ih.trans (Nat.le_add_right _ _)

/-- The entries the lanes have given before round `k`, lane `l`'s entries in the order `τ l`. -/
def popped (s : Nat → L → α) (τ : L → Fin 16 ≃ Fin 16) (k : Nat) : Finset (L × Fin 16) :=
  Finset.univ.filter fun p => ((τ p.1).symm p.2).val < given s k p.1

theorem mem_popped (s : Nat → L → α) (τ : L → Fin 16 ≃ Fin 16) (k : Nat) (p : L × Fin 16) :
    p ∈ popped s τ k ↔ ((τ p.1).symm p.2).val < given s k p.1 := by
  unfold popped
  rw [Finset.mem_filter]
  exact ⟨fun h => h.2, fun h => ⟨Finset.mem_univ p, h⟩⟩

/-- The lanes' search is rounds, where the queues hold each lane's four greatest and no lane has given all four. -/
theorem pop_rounds [DecidableEq L] [Nonempty L] (v : L → Fin 16 → α) (z : α) (s : Nat → L → α) (τ : L → Fin 16 ≃ Fin 16)
    (hτ : ∀ l, Antitone fun r => v l (τ l r)) (hs : ∀ l (r : Fin 16), r.val < 4 → s r.val l = v l (τ l r))
    (hb : ∀ l r, 4 ≤ r → s r l = ⊥) (hout : ∀ l, (pop^[19] s) 0 l ≠ ⊥) :
    Rounds (fun p : L × Fin 16 => v p.1 p.2) z (popped s τ) (fun k => top ((pop^[k] s) 0)) := by
  have hg : ∀ k, k ≤ 19 → ∀ l, given s k l < 4 := by
    intro k hk l
    by_contra h
    refine hout l ?_
    rw [pop_iter]
    exact hb l _ ((not_lt.1 h).trans (given_mono s l hk))
  have h0 : ∀ k, (pop^[k] s) 0 = fun l' => s (given s k l') l' := fun k => funext fun l' => pop_iter s k 0 l'
  have hfront : ∀ k (hk : k ≤ 19) (l : L), s (given s k l) l = v l (τ l ⟨given s k l, (hg k hk l).trans (by decide)⟩) :=
    fun k hk l => hs l ⟨given s k l, (hg k hk l).trans (by decide)⟩ (hg k hk l)
  have hnext : ∀ k l, given s (k + 1) l = given s k l + if s (given s k l) l = top (fun l' => s (given s k l') l') then 1 else 0 :=
    fun _ _ => rfl
  have hatt : ∀ k, k ≤ 19 → ∃ p : L × Fin 16, p ∉ popped s τ k ∧ v p.1 p.2 = top ((pop^[k] s) 0)
      ∧ p ∈ popped s τ (k + 1) := by
    intro k hk
    obtain ⟨l, e⟩ := exists_top ((pop^[k] s) 0)
    rw [h0] at e ⊢
    refine ⟨(l, τ l ⟨given s k l, (hg k hk l).trans (by decide)⟩), ?_, ?_, ?_⟩
    · rw [mem_popped, Equiv.symm_apply_apply]; exact lt_irrefl _
    · rw [← e]; exact (hfront k hk l).symm
    · rw [mem_popped, Equiv.symm_apply_apply, hnext, if_pos e]; exact Nat.lt_succ_self _
  refine ⟨?_, ?_, ?_, ?_, ?_, ?_⟩
  · exact Finset.eq_empty_iff_forall_notMem.2 fun p hp => Nat.not_lt_zero _ ((mem_popped s τ 0 p).1 hp)
  · rintro k hk ⟨l, i⟩ hn
    have hn := not_lt.1 fun h => hn ((mem_popped s τ k (l, i)).2 h)
    have e : v l i = v l (τ l ((τ l).symm i)) := by rw [Equiv.apply_symm_apply]
    show v l i ≤ _
    rw [e]
    refine le_trans (hτ l (a := ⟨given s k l, (hg k hk l).trans (by decide)⟩) hn) ?_
    show v l (τ l _) ≤ _
    rw [← hfront k hk l, h0]
    exact le_top' (fun l' => s (given s k l') l') l
  · intro k _ p hp
    exact (mem_popped s τ (k + 1) p).2 (((mem_popped s τ k p).1 hp).trans_le (given_mono s p.1 (Nat.le_succ k)))
  · rintro k hk ⟨l, i⟩ hp hn
    have hp := (mem_popped s τ (k + 1) (l, i)).1 hp
    have hn := not_lt.1 fun h => hn ((mem_popped s τ k (l, i)).2 h)
    rw [hnext] at hp
    dsimp only at hp hn
    by_cases he : s (given s k l) l = top (fun l' => s (given s k l') l')
    · rw [if_pos he] at hp
      have hi : (τ l).symm i = ⟨given s k l, (hg k hk.le l).trans (by decide)⟩ := Fin.ext (by dsimp only; omega)
      show v l i = _
      rw [h0, ← he, hfront k hk.le l, ← hi, Equiv.apply_symm_apply]
    · rw [if_neg he] at hp
      omega
  · intro k hk _
    obtain ⟨p, hn, e, _⟩ := hatt k hk
    exact ⟨p, hn, e⟩
  · intro k hk _
    obtain ⟨p, hn, _, hp⟩ := hatt k hk.le
    exact ⟨p, hp, hn⟩

end Pop

section Insert

variable {α : Type} [LinearOrder α] [OrderBot α]

/-- Four registers, the greatest first. -/
structure Quad (α : Type) where
  /-- the greatest -/
  r0 : α
  /-- the second -/
  r1 : α
  /-- the third -/
  r2 : α
  /-- the fourth -/
  r3 : α

/-- One value inserted, the least dropped. -/
def ins (R : Quad α) (x : α) : Quad α :=
  let a := min R.r0 x
  let b := min R.r1 a
  let c := min R.r2 b
  ⟨max R.r0 x, max R.r1 a, max R.r2 b, max R.r3 c⟩

/-- The queue the registers are: their values, then the bottom. -/
def Quad.queue (R : Quad α) : Nat → α
  | 0 => R.r0
  | 1 => R.r1
  | 2 => R.r2
  | 3 => R.r3
  | _ => ⊥

/-- The registers hold the greatest of the values seen: register `d` exceeds `x` if more than `d` of them do. -/
def Holds (R : Quad α) (xs : List α) : Prop :=
  ∀ x, ∀ d, d < 4 → (x < R.queue d ↔ d < xs.countP fun y => x < y)

/-- Inserting one value keeps the registers holding the greatest seen. -/
theorem Holds.ins {R : Quad α} {xs : List α} (h : Holds R xs) (y : α) : Holds (ins R y) (xs ++ [y]) := by
  intro x d hd
  have h0 := h x 0 (by decide)
  have h1 := h x 1 (by decide)
  have h2 := h x 2 (by decide)
  have h3 := h x 3 (by decide)
  simp only [Quad.queue] at h0 h1 h2 h3
  rw [List.countP_append, List.countP_singleton]
  by_cases hy : x < y
  · have hy' : decide (x < y) = true := decide_eq_true hy
    rw [if_pos hy']
    match d, hd with
    | 0, _ => simp only [Quad.queue, Cert.Rank.ins, lt_max_iff, lt_min_iff, h0, hy, or_true, and_true, and_false, or_false, true_iff, false_iff]; omega
    | 1, _ => simp only [Quad.queue, Cert.Rank.ins, lt_max_iff, lt_min_iff, h0, h1, hy, or_true, and_true, and_false, or_false, true_iff, false_iff]; omega
    | 2, _ => simp only [Quad.queue, Cert.Rank.ins, lt_max_iff, lt_min_iff, h0, h1, h2, hy, or_true, and_true, and_false, or_false, true_iff, false_iff]; omega
    | 3, _ => simp only [Quad.queue, Cert.Rank.ins, lt_max_iff, lt_min_iff, h0, h1, h2, h3, hy, or_true, and_true, and_false, or_false, true_iff, false_iff]; omega
  · have hy' : ¬ decide (x < y) = true := by rw [decide_eq_true_iff]; exact hy
    rw [if_neg hy']
    match d, hd with
    | 0, _ => simp only [Quad.queue, Cert.Rank.ins, lt_max_iff, lt_min_iff, h0, hy, or_true, and_true, and_false, or_false, true_iff, false_iff]; omega
    | 1, _ => simp only [Quad.queue, Cert.Rank.ins, lt_max_iff, lt_min_iff, h0, h1, hy, or_true, and_true, and_false, or_false, true_iff, false_iff]; omega
    | 2, _ => simp only [Quad.queue, Cert.Rank.ins, lt_max_iff, lt_min_iff, h0, h1, h2, hy, or_true, and_true, and_false, or_false, true_iff, false_iff]; omega
    | 3, _ => simp only [Quad.queue, Cert.Rank.ins, lt_max_iff, lt_min_iff, h0, h1, h2, h3, hy, or_true, and_true, and_false, or_false, true_iff, false_iff]; omega

/-- One value in the first register is held. -/
theorem Holds.single (x : α) : Holds ⟨x, ⊥, ⊥, ⊥⟩ [x] := by
  intro y d hd
  rw [List.countP_singleton]
  have hb : ¬ y < (⊥ : α) := not_lt_bot
  by_cases hy : y < x
  · have hy' : decide (y < x) = true := decide_eq_true hy
    rw [if_pos hy']
    match d, hd with
    | 0, _ => simp only [Quad.queue, hy, or_true, and_true, and_false, or_false, true_iff, false_iff]; omega
    | 1, _ => simp only [Quad.queue, hb, false_iff]; omega
    | 2, _ => simp only [Quad.queue, hb, false_iff]; omega
    | 3, _ => simp only [Quad.queue, hb, false_iff]; omega
  · have hy' : ¬ decide (y < x) = true := by rw [decide_eq_true_iff]; exact hy
    rw [if_neg hy']
    match d, hd with
    | 0, _ => simp only [Quad.queue, hy, or_true, and_true, and_false, or_false, true_iff, false_iff]; omega
    | 1, _ => simp only [Quad.queue, hb, false_iff]; omega
    | 2, _ => simp only [Quad.queue, hb, false_iff]; omega
    | 3, _ => simp only [Quad.queue, hb, false_iff]; omega

/-- Inserting a list. -/
theorem Holds.foldl {R : Quad α} {xs : List α} (h : Holds R xs) : ∀ ys : List α, Holds (ys.foldl Cert.Rank.ins R) (xs ++ ys)
  | [] => by rw [List.append_nil]; exact h
  | y :: ys => by
    have := (h.ins y).foldl ys
    rw [List.append_assoc] at this
    exact this

/-- Values in descending order: the `r`-th exceeds `x` if more than `r` of them do. -/
theorem sorted_count {n : Nat} (w : Fin n → α) (hw : Antitone w) (x : α) (r : Fin n) :
    x < w r ↔ r.val < (Finset.univ.filter fun i => x < w i).card := by
  constructor
  · intro h
    have hsub : Finset.Iic r ⊆ Finset.univ.filter fun i => x < w i := fun i hi =>
      Finset.mem_filter.2 ⟨Finset.mem_univ i, h.trans_le (hw (Finset.mem_Iic.1 hi))⟩
    have := Finset.card_le_card hsub
    rw [Fin.card_Iic] at this
    omega
  · intro h
    by_contra hn
    have hsub : (Finset.univ.filter fun i => x < w i) ⊆ Finset.Iio r := fun i hi => by
      rw [Finset.mem_Iio]
      by_contra hr
      exact hn ((Finset.mem_filter.1 hi).2.trans_le (hw (not_lt.1 hr)))
    have := Finset.card_le_card hsub
    rw [Fin.card_Iio] at this
    omega

/-- The positions of a row in descending order of its values, an earlier position first among equal values. -/
noncomputable def desc {n : Nat} (v : Fin n → α) : Fin n ≃ Fin n :=
  Equiv.ofBijective (sortedFrom fun a b => decide (v b < v a)) ⟨sortedFrom_injective _, sortedFrom_surjective _⟩

theorem desc_apply {n : Nat} (v : Fin n → α) (r : Fin n) :
    desc v r = sortedFrom (fun a b => decide (v b < v a)) r := rfl

/-- The values in that order do not grow. -/
theorem desc_antitone {n : Nat} (v : Fin n → α) : Antitone fun r => v (desc v r) := by
  intro i j hij
  rcases hij.eq_or_lt with rfl | hlt
  · exact le_rfl
  · have h := sortedFrom_noInversion (fun a b : Fin n => decide (v b < v a)) (fun a b : Fin n => decide (v b < v a))
      (fun a b h => decide_eq_false (not_lt.2 (of_decide_eq_true h).le)) (fun _ _ h => h)
      (fun a b c h1 h2 => decide_eq_false (not_lt.2 ((not_lt.1 (of_decide_eq_false h1)).trans (not_lt.1 (of_decide_eq_false h2))))) i j hlt
    exact not_lt.1 (of_decide_eq_false h)

/-- The `r`-th value in descending order exceeds `x` if more than `r` values do. -/
theorem desc_count {n : Nat} (v : Fin n → α) (x : α) (r : Fin n) : x < v (desc v r) ↔ r.val < above v x := by
  rw [sorted_count (fun r => v (desc v r)) (desc_antitone v) x r]
  have e : (Finset.univ.filter fun i => x < v (desc v i)).card = above v x := by
    refine Finset.card_bij (fun i _ => desc v i) ?_ ?_ ?_
    · intro i hi
      exact Finset.mem_filter.2 ⟨Finset.mem_univ _, (Finset.mem_filter.1 hi).2⟩
    · intro i _ j _ e
      exact (desc v).injective e
    · intro i hi
      refine ⟨(desc v).symm i, Finset.mem_filter.2 ⟨Finset.mem_univ _, ?_⟩, (desc v).apply_symm_apply i⟩
      rw [Equiv.apply_symm_apply]
      exact (Finset.mem_filter.1 hi).2
  rw [e]

/-- How many entries of a list of all a row's values exceed `x`. -/
theorem countP_ofFn {n : Nat} (v : Fin n → α) (x : α) : (List.ofFn v).countP (fun y => x < y) = above v x := by
  unfold above
  rw [List.ofFn_eq_map, List.countP_map, List.countP_eq_length_filter]
  have e : (Finset.univ.filter fun j => x < v j) = ((List.finRange n).filter ((fun y => decide (x < y)) ∘ v)).toFinset := by
    ext j
    simp [List.mem_finRange]
  rw [e, List.toFinset_card_of_nodup ((List.nodup_finRange n).filter _)]

/-- Registers that hold a lane's sixteen values are its four greatest in descending order. -/
theorem Holds.order {R : Quad α} {v : Fin 16 → α} (h : Holds R (List.ofFn v)) (r : Fin 16) (hr : r.val < 4) :
    R.queue r.val = v (desc v r) := by
  refine eq_of_forall_lt_iff fun x => ?_
  rw [h x r.val hr, countP_ofFn, desc_count]

end Insert

end Cert.Rank

end
-- ==== Proof.Kept.lean ====
/-
  One row's result. An entry is kept if its value is positive and fewer than twenty entries exceed it; both the
  threshold test and the twenty greatest positions, scattered, come to this where no positive value among the first
  twenty is tied or at most twenty are positive.
-/
module

public import proofs.«01_k».proof.Proof.Search
public import Mathlib.Data.EReal.Basic

@[expose] public section

namespace Cert.Rank

open Idealize.ShloMosaic

section Equiv

variable {ι κ α : Type} [Fintype ι] [Fintype κ] [LinearOrder α]

/-- Renaming the entries changes no count. -/
theorem above_equiv (e : ι ≃ κ) (v : κ → α) (x : α) : above (fun i => v (e i)) x = above v x := by
  refine Finset.card_bij (fun i _ => e i) ?_ ?_ ?_
  · intro i hi
    exact Finset.mem_filter.2 ⟨Finset.mem_univ _, (Finset.mem_filter.1 hi).2⟩
  · intro i _ j _ h
    exact e.injective h
  · intro i hi
    refine ⟨e.symm i, Finset.mem_filter.2 ⟨Finset.mem_univ _, ?_⟩, e.apply_symm_apply i⟩
    dsimp only
    rw [Equiv.apply_symm_apply]
    exact (Finset.mem_filter.1 hi).2

/-- Renaming the entries ties none. -/
theorem Untied.equiv (e : ι ≃ κ) {v : κ → α} {z : α} (h : Untied v z) : Untied (fun i => v (e i)) z := by
  intro i j hij hz hv
  rw [above_equiv]
  exact h (e i) (e j) (fun he => hij (e.injective he)) hz hv

/-- Renaming the entries leaves the row settled. -/
theorem Settled.equiv (e : ι ≃ κ) {v : κ → α} {z : α} (h : Settled v z) : Settled (fun i => v (e i)) z :=
  h.imp (fun q => (above_equiv e v z).le.trans q) fun q => q.equiv e

end Equiv

/-- A row's entry in the result. -/
noncomputable def kept {ι : Type} [Fintype ι] (v : ι → EReal) (i : ι) : EReal :=
  if 0 < v i ∧ above v (v i) < 20 then v i else 0

/-- The threshold test keeps these entries. -/
theorem kept_of_cut {ι : Type} [Fintype ι] (v : ι → EReal) (t : EReal) (h : ∀ i, 0 < v i → (t ≤ v i ↔ above v (v i) < 20)) (i : ι) :
    (if max t 0 ≤ v i then v i else 0) = kept v i := by
  unfold kept
  by_cases hi : 0 < v i
  · have e : max t 0 ≤ v i ↔ 0 < v i ∧ above v (v i) < 20 := by
      rw [max_le_iff, h i hi]
      exact ⟨fun q => ⟨hi, q.1⟩, fun q => ⟨q.2, hi.le⟩⟩
    exact if_congr e rfl rfl
  · have hk : ¬ (0 < v i ∧ above v (v i) < 20) := fun q => hi q.1
    rw [if_neg hk]
    by_cases hm : max t 0 ≤ v i
    · rw [if_pos hm]
      exact le_antisymm (not_lt.1 hi) ((le_max_right _ _).trans hm)
    · rw [if_neg hm]

/-- The whole row's search cuts the row. -/
theorem mask_cut {n : Nat} [NeZero n] (v : Fin n → EReal) (hu : Settled v 0) (i : Fin n) (hi : 0 < v i) :
    top (mask^[19] v) ≤ v i ↔ above v (v i) < 20 :=
  (mask_rounds v 0).cut hu i hi

/-- The lanes' search cuts the row, where every lane's registers hold its sixteen values and none runs out. -/
theorem pop_cut {L : Type} [Fintype L] [DecidableEq L] [Nonempty L] {n : Nat} (e : L × Fin 16 ≃ Fin n) (v : Fin n → EReal)
    (hu : Settled v 0) (R : L → Quad EReal) (hR : ∀ l, Holds (R l) (List.ofFn fun i => v (e (l, i))))
    (hout : ∀ l, (pop^[19] fun r l => (R l).queue r) 0 l ≠ ⊥) (i : Fin n) (hi : 0 < v i) :
    top ((pop^[19] fun r l => (R l).queue r) 0) ≤ v i ↔ above v (v i) < 20 := by
  have h := pop_rounds (fun l i => v (e (l, i))) 0 (fun r l => (R l).queue r) (fun l => desc fun i => v (e (l, i)))
    (fun l => desc_antitone fun i => v (e (l, i))) (fun l r hr => (hR l).order r hr)
    (fun l r hr => by
      match r, hr with
      | r + 4, _ => rfl) hout
  have := h.cut (hu.equiv e) (e.symm i) (by rw [Prod.mk.eta, e.apply_symm_apply]; exact hi)
  rw [← above_equiv e v (v i)]
  rw [Prod.mk.eta, e.apply_symm_apply] at this
  exact this

section Desc

variable {n : Nat} (v : Fin n → EReal)

/-- No more entries exceed a value than stand before it in descending order. -/
theorem above_le (r : Fin n) : above v (v (desc v r)) ≤ r.val := by
  by_contra h
  exact lt_irrefl _ ((desc_count v _ r).2 (not_le.1 h))

/-- The first position of a value in descending order is the number of entries that exceed it. -/
theorem desc_above (i : Fin n) (a : Fin n) (ha : a.val = above v (v i)) : v (desc v a) = v i := by
  have hle := above_le v ((desc v).symm i)
  rw [Equiv.apply_symm_apply] at hle
  refine le_antisymm ?_ ?_
  · refine not_lt.1 fun h => ?_
    have := (desc_count v (v i) a).1 h
    omega
  · have h := desc_antitone v (a := a) (b := (desc v).symm i) (by rw [Fin.le_def]; omega)
    dsimp only at h
    rw [Equiv.apply_symm_apply] at h
    exact h

/-- Each of the twenty greatest values above the next, unless it is not positive: no positive value among the first
    twenty is tied. -/
theorem untied_of_steps (h : ∀ k (hk : k + 1 < n), k < 20 →
    v (desc v ⟨k + 1, hk⟩) < v (desc v ⟨k, Nat.lt_of_succ_lt hk⟩) ∨ v (desc v ⟨k, Nat.lt_of_succ_lt hk⟩) ≤ 0) : Untied v 0 := by
  intro i j hij hz hv
  by_contra hn
  have hi := above_le v ((desc v).symm i)
  have hj := above_le v ((desc v).symm j)
  rw [Equiv.apply_symm_apply] at hi hj
  rw [← hv] at hj
  have hne : ((desc v).symm i).val ≠ ((desc v).symm j).val := fun e => hij ((desc v).symm.injective (Fin.ext e))
  have hib := ((desc v).symm i).isLt
  have hjb := ((desc v).symm j).isLt
  have hk : above v (v i) + 1 < n := by omega
  have hs := h (above v (v i)) hk (by omega)
  have ea := desc_above v i ⟨above v (v i), Nat.lt_of_succ_lt hk⟩ rfl
  rw [ea] at hs
  rcases hs with hs | hs
  · have hge : v i ≤ v (desc v ⟨above v (v i) + 1, hk⟩) := by
      by_cases hc : above v (v i) + 1 ≤ ((desc v).symm i).val
      · have := desc_antitone v (a := ⟨above v (v i) + 1, hk⟩) (b := (desc v).symm i) hc
        dsimp only at this
        rw [Equiv.apply_symm_apply] at this
        exact this
      · have := desc_antitone v (a := ⟨above v (v i) + 1, hk⟩) (b := (desc v).symm j) (by rw [Fin.le_def]; dsimp only; omega)
        dsimp only at this
        rw [Equiv.apply_symm_apply, ← hv] at this
        exact this
    exact absurd hs (not_lt.2 hge)
  · exact absurd hz (not_lt.2 hs)

/-- Each of the twenty greatest values above the next, or the twenty-first not positive: the row is settled. -/
theorem settled_of_steps (hn : 20 < n) (h : ∀ k (hk : k + 1 < n), k < 20 →
    v (desc v ⟨k + 1, hk⟩) < v (desc v ⟨k, Nat.lt_of_succ_lt hk⟩) ∨ v (desc v ⟨20, hn⟩) ≤ 0) : Settled v 0 := by
  by_cases h20 : v (desc v ⟨20, hn⟩) ≤ 0
  · refine Or.inl (not_lt.1 fun hc => ?_)
    exact absurd ((desc_count v 0 ⟨20, hn⟩).2 hc) (not_lt.2 h20)
  · exact Or.inr (untied_of_steps v fun k hk hk20 => (h k hk hk20).imp id fun q => absurd q h20)

/-- The twenty first positions in descending order, clamped at zero, are the entries kept. -/
theorem kept_of_desc (hu : Settled v 0) (i : Fin n) :
    (if ((desc v).symm i).val < 20 then max (v i) 0 else 0) = kept v i := by
  unfold kept
  by_cases hi : 0 < v i
  · have hle := above_le v ((desc v).symm i)
    rw [Equiv.apply_symm_apply] at hle
    have e : ((desc v).symm i).val < 20 ↔ 0 < v i ∧ above v (v i) < 20 := by
      refine ⟨fun h => ⟨hi, by omega⟩, fun h => ?_⟩
      by_contra hr
      rcases hu with hu | hu
      · exact hr (((desc_count v 0 ((desc v).symm i)).1 (by rw [Equiv.apply_symm_apply]; exact hi)).trans_le hu)
      have hab := ((desc v).symm i).isLt
      have ea := desc_above v i ⟨above v (v i), by omega⟩ rfl
      have hne : i ≠ desc v ⟨above v (v i), by omega⟩ := fun he => by
        have : ((desc v).symm i).val = above v (v i) := by
          conv_lhs => rw [he]
          rw [Equiv.symm_apply_apply]
        omega
      have := hu i _ hne hi ea.symm
      omega
    rw [max_eq_left hi.le]
    exact if_congr e rfl rfl
  · have hk : ¬ (0 < v i ∧ above v (v i) < 20) := fun q => hi q.1
    rw [if_neg hk, max_eq_right (not_lt.1 hi), ite_self]

end Desc

end Cert.Rank

end
-- ==== Proof.Block.lean ====
/-
  What one block computes: over the extended reals each entry of the first result's block is its pre-activation where
  the row keeps it and zero elsewhere, and the second result's block is the first's decoded.
-/
module

public import proofs.«01_k».proof.Proof.Stages
public import proofs.«01_k».proof.Proof.Kept
public import Idealize.ShloMosaic.Lib.Pointwise

@[expose] public section

set_option maxRecDepth 65536

noncomputable section

namespace Cert.KernelIdeal.Hand

open Cert.KernelIdeal Cert.KernelIdeal.Gen Cert.Rank
open Idealize.ShloMosaic Idealize.ShloMosaic.TcCoe

/-- The word of `-∞` reads as the bottom. -/
theorem ofBits_bot : Ideal.ofBits .f32 0xFF800000#32 = (⊥ : EReal) := by
  simp [Ideal.ofBits, Ideal.ieee]

/-- A block row's maximum. -/
theorem rowMax_apply (v : Blk Ideal) (i : Fin 256) : rowMax v (ix2 i 0) = top fun l => v (ix2 i l) := by
  unfold rowMax
  pointwise
  rw [ofBits_bot]
  rfl

/-- A whole row's maximum. -/
theorem rowMaxF_apply (v : FVec Ideal S256x4096 .f32) (i : Fin 256) : rowMaxF v (ix2 i 0) = top fun l => v (ix2 i l) := by
  unfold rowMaxF
  pointwise
  rw [ofBits_bot]
  rfl

/-- The block of `-∞` holds the bottom. -/
theorem negV_apply (j : S256x256.Idx) : (negV : Blk Ideal) j = ⊥ := by
  unfold negV
  pointwise
  exact ofBits_bot

/-! ## The whole row's search -/

/-- A round of the whole row's search, row by row. -/
theorem maskF_row (v : FVec Ideal S256x4096 .f32) (i : Fin 256) :
    (fun j => maskF v (ix2 i j)) = mask fun j : Fin 4096 => v (ix2 i j) := by
  funext j
  unfold maskF mask
  pointwise
  rw [rowMaxF_apply, ofBits_bot]

/-- The rounds of the whole row's search, row by row. -/
theorem maskF_iter (v : FVec Ideal S256x4096 .f32) (i : Fin 256) : ∀ k : Nat,
    (fun j => (maskF^[k] v) (ix2 i j)) = mask^[k] fun j : Fin 4096 => v (ix2 i j)
  | 0 => rfl
  | k + 1 => by
    rw [Function.iterate_succ_apply', Function.iterate_succ_apply', maskF_row, maskF_iter v i k]

/-! ## The lanes' search -/

/-- One lane's registers. -/
def lane (R : Regs Ideal) (i l : Fin 256) : Quad EReal :=
  ⟨R.r0 (ix2 i l), R.r1 (ix2 i l), R.r2 (ix2 i l), R.r3 (ix2 i l)⟩

/-- One slice inserted, lane by lane. -/
theorem lane_ins (R : Regs Ideal) (x : Blk Ideal) (i l : Fin 256) : lane (insV R x) i l = ins (lane R i l) (x (ix2 i l)) := rfl

/-- Where a lane holds its row's maximum. -/
theorem select_selV (v a b : Blk Ideal) (i l : Fin 256) :
    select (selV v) a b (ix2 i l) = if v (ix2 i l) = top (fun l' => v (ix2 i l')) then a (ix2 i l) else b (ix2 i l) := by
  unfold selV
  pointwise
  rw [rowMax_apply]

/-- A row's queues. -/
def queues (R : Regs Ideal) (i : Fin 256) : Nat → Fin 256 → EReal := fun r l => (lane R i l).queue r

/-- One round, row by row. -/
theorem queues_pop (R : Regs Ideal) (i : Fin 256) : queues (popV R) i = pop (queues R i) := by
  funext r l
  match r with
  | 0 => exact select_selV R.r0 R.r1 R.r0 i l
  | 1 => exact select_selV R.r0 R.r2 R.r1 i l
  | 2 => exact select_selV R.r0 R.r3 R.r2 i l
  | 3 =>
    refine (select_selV R.r0 negV R.r3 i l).trans ?_
    rw [negV_apply]
    rfl
  | r + 4 => exact (ite_self _).symm

/-- The rounds, row by row. -/
theorem queues_iter (R : Regs Ideal) (i : Fin 256) : ∀ k : Nat, queues (popV^[k] R) i = pop^[k] (queues R i)
  | 0 => rfl
  | k + 1 => by
    rw [Function.iterate_succ_apply', Function.iterate_succ_apply', queues_pop, queues_iter R i k]

/-- A lane and a slice name an entry of the row. -/
def place : Fin 256 × Fin 16 ≃ Fin 4096 := (Equiv.prodComm (Fin 256) (Fin 16)).trans (finProdFinEquiv (m := 16) (n := 256))

/-- A slice's entry is the row's. -/
theorem sliceV_apply (v8 : FVec Ideal S256x4096 .f32) (s : Fin 16) (o : Nat) (ho : o = 256 * s.val)
    (h : S256x4096.Slices ![0, o] S256x256) (i l : Fin 256) : sliceV v8 o h (ix2 i l) = v8 (ix2 i (place (l, s))) := by
  subst ho
  unfold sliceV
  pointwise
  refine congrArg v8 (congrArg (ix2 i) (Fin.ext ?_))
  exact Nat.add_comm _ _

/-- After every slice is in, a lane's registers hold its sixteen values. -/
theorem lane_regs (v8 : FVec Ideal S256x4096 .f32) (i l : Fin 256) :
    Holds (lane (regs v8) i l) (List.ofFn fun s : Fin 16 => v8 (ix2 i (place (l, s)))) := by
  have h0 : lane ⟨sliceV v8 0, negV, negV, negV⟩ i l = ⟨v8 (ix2 i (place (l, 0))), ⊥, ⊥, ⊥⟩ := by
    have hs := sliceV_apply v8 0 0 rfl (by decide) i l
    have hn := negV_apply (ix2 i l)
    rw [← hs, ← hn]
    rfl
  have h := (Holds.single (v8 (ix2 i (place (l, 0))))).foldl
    (List.ofFn fun s : Fin 15 => v8 (ix2 i (place (l, s.succ))))
  rw [List.ofFn_succ]
  have e : lane (regs v8) i l = (List.ofFn fun s : Fin 15 => v8 (ix2 i (place (l, s.succ)))).foldl ins
      ⟨v8 (ix2 i (place (l, 0))), ⊥, ⊥, ⊥⟩ := by
    rw [← h0]
    unfold regs
    simp only [List.foldl_cons, List.foldl_nil, lane_ins, List.ofFn_succ, List.ofFn_zero]
    rw [sliceV_apply v8 1 256 rfl, sliceV_apply v8 2 512 rfl, sliceV_apply v8 3 768 rfl, sliceV_apply v8 4 1024 rfl,
      sliceV_apply v8 5 1280 rfl, sliceV_apply v8 6 1536 rfl, sliceV_apply v8 7 1792 rfl, sliceV_apply v8 8 2048 rfl,
      sliceV_apply v8 9 2304 rfl, sliceV_apply v8 10 2560 rfl, sliceV_apply v8 11 2816 rfl, sliceV_apply v8 12 3072 rfl,
      sliceV_apply v8 13 3328 rfl, sliceV_apply v8 14 3584 rfl, sliceV_apply v8 15 3840 rfl]
    rfl
  rw [e]
  exact h

/-! ## The conditional -/

/-- A lane at the bottom marks the block. -/
theorem anyOut_pos (v : Blk Ideal) (i l : Fin 256) (h : v (ix2 i l) = ⊥) : (0 : EReal) < anyOut v := by
  have e : anyOut v = Finset.univ.sup fun x : Fin 256 × Fin 256 => if v (ix2 x.1 x.2) = (negV : Blk Ideal) (ix2 x.1 x.2) then (1 : EReal) else 0 := by
    unfold anyOut ranOut
    pointwise
    rw [ofBits_bot]
    rfl
  rw [e]
  refine lt_of_lt_of_le zero_lt_one (le_trans ?_ (Finset.le_sup (Finset.mem_univ (i, l))))
  dsimp only
  rw [negV_apply, if_pos h]

/-- The conditional's two branches: the whole row's search, or the lanes' maximum where no lane is at the bottom. -/
theorem finV_cases (v8 : FVec Ideal S256x4096 .f32) (c : Blk Ideal) :
    finV v8 c = fullThresh v8 ∨ (finV v8 c = rowMax c ∧ ∀ i l, c (ix2 i l) ≠ ⊥) := by
  unfold finV
  split
  · exact Or.inl rfl
  · next hc =>
    refine Or.inr ⟨rfl, fun i l h => hc ?_⟩
    have hp := anyOut_pos c i l h
    generalize anyOut c = a at hp
    pointwise
    rw [decide_eq_true (show (0 : EReal) < a from hp)]
    decide

/-- The conditional cuts a row, given what the registers hold after the rounds. -/
theorem finV_cut (v8 : FVec Ideal S256x4096 .f32) (R : Regs Ideal) (i : Fin 256)
    (hu : Settled (fun j : Fin 4096 => v8 (ix2 i j)) 0) (e : queues R i 0 = (pop^[19] (queues (regs v8) i)) 0)
    (j : Fin 4096) (hj : 0 < v8 (ix2 i j)) :
    finV v8 R.r0 (ix2 i 0) ≤ v8 (ix2 i j) ↔ above (fun j : Fin 4096 => v8 (ix2 i j)) (v8 (ix2 i j)) < 20 := by
  rcases finV_cases v8 R.r0 with h | ⟨h, hb⟩
  · rw [h, fullThresh_eq, rowMaxF_apply, maskF_iter]
    exact mask_cut (fun j : Fin 4096 => v8 (ix2 i j)) hu j hj
  · have he : (fun l => R.r0 (ix2 i l)) = (pop^[19] (queues (regs v8) i)) 0 := e
    rw [h, rowMax_apply, he]
    exact pop_cut place (fun j : Fin 4096 => v8 (ix2 i j)) hu (fun l => lane (regs v8) i l) (fun l => lane_regs v8 i l)
      (fun l hl => hb i l ((congrFun he l).trans hl)) j hj

/-- The block's threshold cuts each row whose twenty greatest positive entries are determined. -/
theorem thresh_cut (v0 : Vec Ideal S256x1024 .bf16) (v2 : Vec Ideal S4096x1024 .bf16) (v5 : Vec Ideal S1x4096 .f32)
    (i : Fin 256) (hu : Settled (fun j : Fin 4096 => k0_pay6 v0 v2 v5 (ix2 i j)) 0)
    (j : Fin 4096) (hj : 0 < k0_pay6 v0 v2 v5 (ix2 i j)) : thresh v0 v2 v5 (ix2 i 0) ≤ k0_pay6 v0 v2 v5 (ix2 i j)
      ↔ above (fun j : Fin 4096 => k0_pay6 v0 v2 v5 (ix2 i j)) (k0_pay6 v0 v2 v5 (ix2 i j)) < 20 := by
  rw [thresh_eq]
  exact finV_cut _ _ i hu (congrFun (queues_iter _ i 19) 0) j hj

/-! ## The two blocks -/

/-- The pre-activations of a block. -/
theorem pre_apply (v0 : Vec Ideal S256x1024 .bf16) (v2 : Vec Ideal S4096x1024 .bf16) (v5 : Vec Ideal S1x4096 .f32)
    (i : Fin 256) (j : Fin 4096) :
    k0_pay6 v0 v2 v5 (ix2 i j) = (∑ x : Fin 1024, v0 (ix2 i x) * v2 (ix2 j x)) + v5 (ix2 0 j) := by
  unfold k0_pay6
  pointwise

/-- The cut at a threshold. -/
theorem cut_apply (v8 : FVec Ideal S256x4096 .f32) (v9 : FVec Ideal S256x1 .f32) (c : Ideal .f32) (i : Fin 256)
    (j : Fin 4096) : k0_pay1 v8 v9 c (ix2 i j) = if max (v9 (ix2 i 0)) c ≤ v8 (ix2 i j) then v8 (ix2 i j) else 0 := by
  unfold k0_pay1
  pointwise

/-- The decoding of a cut. -/
theorem decode_apply (v8 : FVec Ideal S256x4096 .f32) (v9 : FVec Ideal S256x1 .f32) (c : Ideal .f32)
    (v315 : Vec Ideal S1024x4096 .bf16) (v319 : Vec Ideal S1x1024 .f32) (i : Fin 256) (j : Fin 1024) :
    k0_pay2 v8 v9 c v315 v319 (ix2 i j) = (∑ k : Fin 4096, k0_pay1 v8 v9 c (ix2 i k) * v315 (ix2 j k)) + v319 (ix2 0 j) := by
  unfold k0_pay2
  pointwise

/-- The first result's block. -/
theorem zBlock_apply (v0 : Vec Ideal S256x1024 .bf16) (v2 : Vec Ideal S4096x1024 .bf16) (v5 : Vec Ideal S1x4096 .f32)
    (i : Fin 256) (hu : Settled (fun j : Fin 4096 => (∑ x : Fin 1024, v0 (ix2 i x) * v2 (ix2 j x)) + v5 (ix2 0 j)) 0)
    (j : Fin 4096) :
    zBlock v0 v2 v5 (ix2 i j) = kept (fun j : Fin 4096 => (∑ x : Fin 1024, v0 (ix2 i x) * v2 (ix2 j x)) + v5 (ix2 0 j)) j := by
  have hr : (fun j : Fin 4096 => k0_pay6 v0 v2 v5 (ix2 i j))
      = fun j : Fin 4096 => (∑ x : Fin 1024, v0 (ix2 i x) * v2 (ix2 j x)) + v5 (ix2 0 j) :=
    funext fun j => pre_apply v0 v2 v5 i j
  rw [← hr] at hu ⊢
  rw [← kept_of_cut _ _ (thresh_cut v0 v2 v5 i hu)]
  unfold zBlock
  rw [cut_apply, show (Scalar.ofBits .f32 0x00000000#32 : Ideal .f32) = (0 : EReal) by simp [Ideal.ofBits, Ideal.ieee]]

/-- The second result's block. -/
theorem xBlock_apply (v0 : Vec Ideal S256x1024 .bf16) (v2 : Vec Ideal S4096x1024 .bf16) (v5 : Vec Ideal S1x4096 .f32)
    (v315 : Vec Ideal S1024x4096 .bf16) (v319 : Vec Ideal S1x1024 .f32) (i : Fin 256) (j : Fin 1024) :
    xBlock v0 v2 v5 v315 v319 (ix2 i j)
      = (∑ k : Fin 4096, zBlock v0 v2 v5 (ix2 i k) * v315 (ix2 j k)) + v319 (ix2 0 j) := by
  unfold xBlock
  exact decode_apply _ _ _ v315 v319 i j

end Cert.KernelIdeal.Hand

end
-- ==== Proof.Arrays.lean ====
/-
  What the launch's blocks hold, entry by entry, over the extended reals: the arrays the region finds are the arguments
  re-indexed (a change of format is the identity there), and block `t` of the rows is rows `256 t` to `256 t + 255`.
-/
module

public import proofs.«01_k».proof.Proof.Body
public import Idealize.ShloMosaic.Lib.Pointwise
public import Idealize.ShloMosaic.Lib.Claim
public import Idealize.ShloMosaic.Lib.Pipeline.Value
public import Idealize.ShloMosaic.Lib.Pipeline.ValueKit

@[expose] public section

set_option maxRecDepth 65536

noncomputable section

namespace Cert.KernelIdeal.Hand

open Cert.KernelIdeal Cert.KernelIdeal.Gen
open Idealize.ShloMosaic Idealize.ShloMosaic.TcCoe

/-- The batch entry a row of the flattened rows belongs to. -/
def batch (r : Fin 4096) : Fin 2 := ⟨r.val / 2048, by have := r.isLt; omega⟩

/-- The place of a row of the flattened rows in its batch entry. -/
def within (r : Fin 4096) : Fin 2048 := ⟨r.val % 2048, by omega⟩

/-- Flattening the leading two axes, at the width of the inputs and of the decoded result. -/
theorem flat_narrow {α : Type} (x : S2x2048x1024.Idx → α) (h : S2x2048x1024.ShapeCasts S4096x1024) (r : Fin 4096)
    (k : Fin 1024) : shapeCast S4096x1024 x h (ix2 r k) = x (ix3 (batch r) (within r) k) :=
  shapeCast_apply x h _ _ (by
    rw [Shape.rowMajor_val_three, Shape.rowMajor_val_two]
    show (r.val / 2048 * 2048 + r.val % 2048) * 1024 + k.val = r.val * 1024 + k.val
    omega)

/-- Flattening the leading two axes, at the width of the pre-activations. -/
theorem flat_wide {α : Type} (x : S2x2048x4096.Idx → α) (h : S2x2048x4096.ShapeCasts S4096x4096) (r : Fin 4096)
    (k : Fin 4096) : shapeCast S4096x4096 x h (ix2 r k) = x (ix3 (batch r) (within r) k) :=
  shapeCast_apply x h _ _ (by
    rw [Shape.rowMajor_val_three, Shape.rowMajor_val_two]
    show (r.val / 2048 * 2048 + r.val % 2048) * 4096 + k.val = r.val * 4096 + k.val
    omega)

/-- A vector of 4096 entries as one row. -/
theorem oneRow_4096 {α : Type} (x : S4096.Idx → α) (h : S4096.ShapeCasts S1x4096) (k : Fin 4096) :
    shapeCast S1x4096 x h (ix2 0 k) = x (ix1 k) :=
  shapeCast_apply x h _ _ (by
    rw [Shape.rowMajor_val_one, Shape.rowMajor_val_two]
    show k.val = 0 * 4096 + k.val
    omega)

/-- A vector of 1024 entries as one row. -/
theorem oneRow_1024 {α : Type} (x : S1024.Idx → α) (h : S1024.ShapeCasts S1x1024) (k : Fin 1024) :
    shapeCast S1x1024 x h (ix2 0 k) = x (ix1 k) :=
  shapeCast_apply x h _ _ (by
    rw [Shape.rowMajor_val_one, Shape.rowMajor_val_two]
    show k.val = 0 * 1024 + k.val
    omega)

variable (m : (ℓ : Loc nD τ sig) → Buf (Elt Ideal) ℓ) (c : Dev nD)

/-- The rows the region finds: the first argument flattened. -/
theorem entry_rows (r : Fin 4096) (k : Fin 1024) :
    V m c main_v1 (ix2 r k) = m (c.tc.loc main_arg0) (ix3 (batch r) (within r) k) := by
  entry_read
  exact flat_narrow (α := EReal) _ _ r k

/-- The encoder's weights the region finds: the second argument. -/
theorem entry_enc (j : Fin 4096) (k : Fin 1024) :
    V m c main_v2 (ix2 j k) = m (c.tc.loc main_arg1) (ix2 j k) := by
  entry_read
  rfl

/-- The decoder's weights the region finds: the fourth argument. -/
theorem entry_dec (j : Fin 1024) (k : Fin 4096) :
    V m c main_v3 (ix2 j k) = m (c.tc.loc main_arg3) (ix2 j k) := by
  entry_read
  rfl

/-- The encoder's bias the region finds: the third argument as one row. -/
theorem entry_encBias (j : Fin 4096) :
    V m c main_v4 (ix2 0 j) = m (c.tc.loc main_arg2) (ix1 j) := by
  entry_read
  exact oneRow_4096 (α := EReal) _ _ j

/-- The decoder's bias the region finds: the fifth argument as one row. -/
theorem entry_decBias (j : Fin 1024) :
    V m c main_v5 (ix2 0 j) = m (c.tc.loc main_arg4) (ix1 j) := by
  entry_read
  exact oneRow_1024 (α := EReal) _ _ j

/-- The block index of each window at a point: the row blocks go by the point, the others stay. -/
theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![t.val, 0] := (by decide +kernel : ∀ t : Fin grid0.N, _)
theorem index_6 : ∀ t : Fin cfg0.N, win0_6.index t = ![t.val, 0] := (by decide +kernel : ∀ t : Fin grid0.N, _)

/-- Row `i` of block `t`, among the flattened rows. -/
def rowAt (t : Fin cfg0.N) (i : Fin 256) : Fin 4096 :=
  ⟨t.val * 256 + i.val, by have h : t.val < 16 := t.isLt; have := i.isLt; omega⟩

/-- The rows' block at a point. -/
theorem iblk_rows (t : Fin cfg0.N) (i : Fin 256) (k : Fin 1024) :
    iblk m c 0 t (ix2 i k) = m (c.tc.loc main_arg0) (ix3 (batch (rowAt t i)) (within (rowAt t i)) k) := by
  rw [← entry_rows m c]
  blk_ext [iblk, index_0, rowAt]

/-- The encoder's weights at a point. -/
theorem iblk_enc (t : Fin cfg0.N) (j : Fin 4096) (k : Fin 1024) :
    iblk m c 1 t (ix2 j k) = m (c.tc.loc main_arg1) (ix2 j k) := by
  rw [← entry_enc m c]
  blk_ext [iblk, index_1]

/-- The encoder's bias at a point. -/
theorem iblk_encBias (t : Fin cfg0.N) (j : Fin 4096) :
    iblk m c 2 t (ix2 0 j) = m (c.tc.loc main_arg2) (ix1 j) := by
  rw [← entry_encBias m c]
  blk_ext [iblk, index_2]

/-- The decoder's weights at a point. -/
theorem iblk_dec (t : Fin cfg0.N) (j : Fin 1024) (k : Fin 4096) :
    iblk m c 3 t (ix2 j k) = m (c.tc.loc main_arg3) (ix2 j k) := by
  rw [← entry_dec m c]
  blk_ext [iblk, index_3]

/-- The decoder's bias at a point. -/
theorem iblk_decBias (t : Fin cfg0.N) (j : Fin 1024) :
    iblk m c 4 t (ix2 0 j) = m (c.tc.loc main_arg4) (ix1 j) := by
  rw [← entry_decBias m c]
  blk_ext [iblk, index_4]

/-- The first result's block, placed in its array. -/
theorem emb_z (t : Fin cfg0.N) (i : Fin 256) (j : Fin 4096) :
    (((cfg0.win 5).blk t).view.emb (ix2 i j) : S4096x4096.Idx) = ix2 (rowAt t i) j := by
  blk_ext [index_5, rowAt]

/-- The second result's block, placed in its array. -/
theorem emb_x (t : Fin cfg0.N) (i : Fin 256) (j : Fin 1024) :
    (((cfg0.win 6).blk t).view.emb (ix2 i j) : S4096x1024.Idx) = ix2 (rowAt t i) j := by
  blk_ext [index_6, rowAt]

end Cert.KernelIdeal.Hand

end
-- ==== Proof.TopK.lean ====
/-
  The greatest elements of a row, in order: over the extended reals the stable top-k of a three-axis array along its last
  axis gives, at rank `r`, the element of rank `r` of its row and that element's place.
-/
module

public import proofs.«01_k».proof.Proof.Search
public import Idealize.ShloMosaic.Lib.Pointwise

@[expose] public section

set_option maxRecDepth 16384

noncomputable section

namespace Cert.Rank

open Idealize.ShloMosaic

variable {B N K k : Nat}

/-- Moving along the last axis. -/
theorem along_last (b : Fin B) (n : Fin N) (r j : Fin K) :
    Shape.Idx.along (s := ⟨3, ![B, N, K]⟩) (ix3 b n r) 2 j = ix3 b n j := by
  unfold Shape.Idx.along
  funext a
  match a with
  | ⟨0, _⟩ => rfl
  | ⟨1, _⟩ => rfl
  | ⟨2, _⟩ => rfl

/-- The comparison that sorts is the order of the extended reals. -/
theorem gt_eq (x y : EReal) : ((FloatOps.cmpfTotal (F := Ideal) (φ := .f32) .gt x y : BitVec 1) == 1#1) = decide (y < x) := by
  show (BitVec.ofBool (decide (y < x)) == 1#1) = _
  cases decide (y < x) <;> rfl

/-- The order a row is sorted by. -/
theorem sorted_last (y : (⟨3, ![B, N, K]⟩ : Shape).Idx → EReal) (b : Fin B) (n : Fin N) (r : Fin K) :
    sortedFrom (fun p q : Fin K =>
        (FloatOps.cmpfTotal (F := Ideal) (φ := .f32) .gt (y (Shape.Idx.along (s := ⟨3, ![B, N, K]⟩) (ix3 b n r) 2 p))
          (y (Shape.Idx.along (s := ⟨3, ![B, N, K]⟩) (ix3 b n r) 2 q)) : BitVec 1) == 1#1) r
      = desc (fun j : Fin K => y (ix3 b n j)) r := by
  rw [desc_apply]
  refine congrArg (fun f => sortedFrom f r) (funext fun p => funext fun q => ?_)
  rw [gt_eq, along_last, along_last]

/-- The first `k` of every row. -/
theorem slice_last {α : Type} (z : (⟨3, ![B, N, K]⟩ : Shape).Idx → α)
    (h : (⟨3, ![B, N, K]⟩ : Shape).Slices (fun _ => 0) ⟨3, ![B, N, k]⟩) (b : Fin B) (n : Fin N) (r : Fin k) (hr : r.val < K) :
    extractStridedSlice (s := ⟨3, ![B, N, K]⟩) ⟨3, ![B, N, k]⟩ (fun _ => 0) z h (ix3 b n r) = z (ix3 b n ⟨r.val, hr⟩) := by
  refine congrArg z (funext fun a => ?_)
  match a with
  | ⟨0, _⟩ => exact Fin.ext (Nat.zero_add _)
  | ⟨1, _⟩ => exact Fin.ext (Nat.zero_add _)
  | ⟨2, _⟩ => exact Fin.ext (Nat.zero_add _)

/-- The value at rank `r`. -/
theorem topK_value (y : (⟨3, ![B, N, K]⟩ : Shape).Idx → EReal)
    (h : (⟨3, ![B, N, K]⟩ : Shape).Slices (fun _ => 0) ⟨3, ![B, N, k]⟩) (b : Fin B) (n : Fin N) (r : Fin k) (hr : r.val < K) :
    (Host.topK (s := ⟨3, ![B, N, K]⟩) ⟨3, ![B, N, k]⟩ 2 (FloatOps.cmpfTotal (F := Ideal) (φ := .f32) .gt) y h).1 (ix3 b n r)
      = y (ix3 b n (desc (fun j : Fin K => y (ix3 b n j)) ⟨r.val, hr⟩)) := by
  rw [← sorted_last y b n ⟨r.val, hr⟩, ← along_last b n ⟨r.val, hr⟩]
  refine (slice_last (Host.sort2 ⟨3, ![B, N, K]⟩ 2
    (fun p q : EReal × BitVec 32 => (FloatOps.cmpfTotal (F := Ideal) (φ := .f32) .gt p.1 q.1 : BitVec 1)) y
    (fun i => if hd : 2 < (⟨3, ![B, N, K]⟩ : Shape).rank then iotaInDim ⟨3, ![B, N, K]⟩ 32 ⟨2, hd⟩ i else 0#32)).1
    h b n r hr).trans ?_
  unfold Host.sort2
  rw [dif_pos (show 2 < (⟨3, ![B, N, K]⟩ : Shape).rank from Nat.lt_succ_self 2)]
  rfl

/-- Its place. -/
theorem topK_place (y : (⟨3, ![B, N, K]⟩ : Shape).Idx → EReal)
    (h : (⟨3, ![B, N, K]⟩ : Shape).Slices (fun _ => 0) ⟨3, ![B, N, k]⟩) (b : Fin B) (n : Fin N) (r : Fin k) (hr : r.val < K) :
    (Host.topK (s := ⟨3, ![B, N, K]⟩) ⟨3, ![B, N, k]⟩ 2 (FloatOps.cmpfTotal (F := Ideal) (φ := .f32) .gt) y h).2 (ix3 b n r)
      = BitVec.ofNat 32 (desc (fun j : Fin K => y (ix3 b n j)) ⟨r.val, hr⟩).val := by
  rw [← sorted_last y b n ⟨r.val, hr⟩]
  refine (slice_last (Host.sort2 ⟨3, ![B, N, K]⟩ 2
    (fun p q : EReal × BitVec 32 => (FloatOps.cmpfTotal (F := Ideal) (φ := .f32) .gt p.1 q.1 : BitVec 1)) y
    (fun i => if hd : 2 < (⟨3, ![B, N, K]⟩ : Shape).rank then iotaInDim ⟨3, ![B, N, K]⟩ 32 ⟨2, hd⟩ i else 0#32)).2
    h b n r hr).trans ?_
  unfold Host.sort2
  rw [dif_pos (show 2 < (⟨3, ![B, N, K]⟩ : Shape).rank from Nat.lt_succ_self 2)]
  rfl

end Cert.Rank

end
-- ==== Proof.Ref.lean ====
/-
  What the reference computes: over the extended reals its first result keeps each row's twenty greatest pre-activations
  where positive and holds zero elsewhere, and its second result is the first's decoding.
-/
module

public import proofs.«01_k».proof.Proof.TopK
public import proofs.«01_k».proof.Proof.Kept
public import proofs.«01_k».proof.Proof.Gen.ReferenceIdeal.Read
public import proofs.«01_k».proof.Proof.Gen.ReferenceIdeal
public import Idealize.ShloMosaic.Lib.Pointwise
public import Idealize.ShloMosaic.Lib.Routing.OpsSet

@[expose] public section

set_option maxRecDepth 65536

noncomputable section

namespace Cert.ReferenceIdeal.Hand

open Cert.ReferenceIdeal Cert.ReferenceIdeal.Gen Cert.ReferenceIdeal.Read Cert.Rank
open Idealize.ShloMosaic

variable (x0 : (⟨S2x2048x1024, .f32⟩ : BufTy).Contents (Elt Ideal)) (x1 : (⟨S4096x1024, .f32⟩ : BufTy).Contents (Elt Ideal))
  (x2 : (⟨S4096, .f32⟩ : BufTy).Contents (Elt Ideal)) (x3 : (⟨S1024x4096, .f32⟩ : BufTy).Contents (Elt Ideal))
  (x4 : (⟨S1024, .f32⟩ : BufTy).Contents (Elt Ideal))

/-- The pre-activations of one row. -/
def row (b : Fin 2) (n : Fin 2048) (j : Fin 4096) : EReal :=
  (∑ x : Fin 1024, x0 (ix3 b n x) * x1 (ix2 j x)) + x2 (ix1 j)

/-- The pre-activations. -/
theorem v3_row (b : Fin 2) (n : Fin 2048) (j : Fin 4096) :
    val_main_v3 (F := Ideal) x0 x1 x2 (ix3 b n j) = row x0 x1 x2 b n j := by
  rw [val_main_v3_apply, val_main_v0_apply, val_main_v2_apply, val_main_v1_apply]
  have el : ∀ k : Fin 1024, lidx_main_v0 (ix3 b n j) k = ix3 b n k := fun k => funext fun a => match a with
    | ⟨0, _⟩ => rfl
    | ⟨1, _⟩ => rfl
    | ⟨2, _⟩ => rfl
  have er : ∀ k : Fin 1024, ridx_main_v0 (ix3 b n j) k = ix2 j k := fun k => funext fun a => match a with
    | ⟨0, _⟩ => rfl
    | ⟨1, _⟩ => rfl
  have eb : idx_main_v1 (idx_main_v2 (ix3 b n j)) = ix1 j := funext fun a => match a with
    | ⟨0, _⟩ => rfl
  simp only [el, er, eb]
  rfl

/-- A rank among the twenty, as a rank of the row. -/
def rank (r : Fin 20) : Fin 4096 := ⟨r.val, by have := r.isLt; omega⟩

/-- The rows of the pre-activations. -/
theorem v3_rows (b : Fin 2) (n : Fin 2048) :
    (fun j : Fin 4096 => val_main_v3 (F := Ideal) x0 x1 x2 (ix3 b n j)) = row x0 x1 x2 b n :=
  funext fun j => v3_row x0 x1 x2 b n j

/-- The zero word. -/
theorem ofBits_zero : (FloatOps.ofBits .f32 0x00000000#32 : Ideal .f32) = (0 : EReal) := by
  show Ideal.ofBits .f32 0x00000000#32 = 0
  simp [Ideal.ofBits, Ideal.ieee]

/-- What the scatter writes: the greatest values, clamped at zero. -/
theorem v10_row (b : Fin 2) (n : Fin 2048) (r : Fin 20) :
    val_main_v10 (F := Ideal) x0 x1 x2 (ix3 b n r)
      = max (row x0 x1 x2 b n (desc (row x0 x1 x2 b n) (rank r))) 0 := by
  have e := topK_value (val_main_v3 (F := Ideal) x0 x1 x2) sliceFits_S2x2048x4096_S2x2048x20 b n r (rank r).isLt
  rw [v3_rows, v3_row] at e
  rw [val_main_v10_apply, val_main_v9_apply, val_main_cst_0_apply, ofBits_zero]
  exact congrArg (fun z : EReal => max z 0) e

/-- Where: the places of the greatest values. -/
theorem v25_row (b : Fin 2) (n : Fin 2048) (r : Fin 20) :
    val_main_v25 (F := Ideal) x0 x1 x2 (ix3 b n r) = BitVec.ofNat 32 (desc (row x0 x1 x2 b n) (rank r)).val := by
  have e := topK_place (val_main_v3 (F := Ideal) x0 x1 x2) sliceFits_S2x2048x4096_S2x2048x20 b n r (rank r).isLt
  rw [v3_rows] at e
  have e' : val_main_indices (F := Ideal) x0 x1 x2 (ix3 b n r) = BitVec.ofNat 32 (desc (row x0 x1 x2 b n) (rank r)).val := e
  rw [val_main_v25_apply, val_main_v22_apply, val_main_v21_apply, val_main_c_4_apply, e']
  refine Routing.wrap_of_lt _ _ ?_
  have := (desc (row x0 x1 x2 b n) (rank r)).isLt
  rw [BitVec.toNat_ofNat]
  omega

/-- The batch words. -/
theorem v26_row (b : Fin 2) (n : Fin 2048) (r : Fin 20) :
    val_main_v26 (F := Ideal) (ix3 b n r) = BitVec.ofNat 32 b.val := by
  rw [val_main_v26_apply, val_main_v15_apply, val_main_v12_apply, val_main_v11_apply, val_main_c_apply, val_main_v5_apply,
    val_main_v4_apply]
  refine Routing.wrap_of_lt _ _ ?_
  have := b.isLt
  show (BitVec.ofNat 32 b.val).toNat < _
  rw [BitVec.toNat_ofNat]
  omega

/-- The row words. -/
theorem v27_row (b : Fin 2) (n : Fin 2048) (r : Fin 20) :
    val_main_v27 (F := Ideal) (ix3 b n r) = BitVec.ofNat 32 n.val := by
  rw [val_main_v27_apply, val_main_v20_apply, val_main_v17_apply, val_main_v16_apply, val_main_c_2_apply, val_main_v7_apply,
    val_main_v6_apply]
  refine Routing.wrap_of_lt _ _ ?_
  have := n.isLt
  show (BitVec.ofNat 32 n.val).toNat < _
  rw [BitVec.toNat_ofNat]
  omega

/-- The three index words of an update. -/
theorem v31_row (b : Fin 2) (n : Fin 2048) (r : Fin 20) (a : Fin 3) :
    val_main_v31 (F := Ideal) x0 x1 x2 (ix4 b n r a)
      = BitVec.ofNat 32 (match a with
          | 0 => b.val
          | 1 => n.val
          | 2 => (desc (row x0 x1 x2 b n) (rank r)).val) := by
  unfold val_main_v31
  have ei : ∀ z : S2x2048x20x1.Idx → S2x2048x20.Idx, (∀ i a, (z i a).val = (i (a.castSucc)).val) → z (ix4 b n r 0) = ix3 b n r := fun z hz =>
    funext fun a => Fin.ext ((hz _ a).trans (match a with
      | ⟨0, _⟩ => rfl
      | ⟨1, _⟩ => rfl
      | ⟨2, _⟩ => rfl))
  have e28 : val_main_v28 (F := Ideal) (ix4 b n r 0) = BitVec.ofNat 32 b.val := by
    rw [val_main_v28_apply, ei idx_main_v28 fun i a => match a with
      | ⟨0, _⟩ => rfl
      | ⟨1, _⟩ => rfl
      | ⟨2, _⟩ => rfl]
    exact v26_row b n r
  have e29 : val_main_v29 (F := Ideal) (ix4 b n r 0) = BitVec.ofNat 32 n.val := by
    rw [val_main_v29_apply, ei idx_main_v29 fun i a => match a with
      | ⟨0, _⟩ => rfl
      | ⟨1, _⟩ => rfl
      | ⟨2, _⟩ => rfl]
    exact v27_row b n r
  have e30 : val_main_v30 (F := Ideal) x0 x1 x2 (ix4 b n r 0) = BitVec.ofNat 32 (desc (row x0 x1 x2 b n) (rank r)).val := by
    rw [val_main_v30_apply, ei idx_main_v30 fun i a => match a with
      | ⟨0, _⟩ => rfl
      | ⟨1, _⟩ => rfl
      | ⟨2, _⟩ => rfl]
    exact v25_row x0 x1 x2 b n r
  generalize val_main_v28 (F := Ideal) = y28 at e28 ⊢
  generalize val_main_v29 (F := Ideal) = y29 at e29 ⊢
  generalize val_main_v30 (F := Ideal) x0 x1 x2 = y30 at e30 ⊢
  match a with
  | 0 =>
    refine Eq.trans ?_ e28
    pointwise
  | 1 =>
    refine Eq.trans ?_ e29
    pointwise
  | 2 =>
    refine Eq.trans ?_ e30
    pointwise

/-- Where an update lands. -/
theorem lands (idx : IVec S2x2048x20x3 32) (b : Fin 2) (n : Fin 2048) (r : Fin 20) (b' : Fin 2) (n' : Fin 2048) (j : Fin 4096) :
    scatter_S2x2048x4096_S2x2048x20x3_S2x2048x20_n_012_012_3.resultIdx? (ix3 b n r) idx = some (ix3 b' n' j)
      ↔ (idx (ix4 b n r 0)).toInt = b'.val ∧ (idx (ix4 b n r 1)).toInt = n'.val ∧ (idx (ix4 b n r 2)).toInt = j.val := by
  have hw : ∀ a : Fin 3, scatter_S2x2048x4096_S2x2048x20x3_S2x2048x20_n_012_012_3.window (ix3 b n r) a = 0 := fun a =>
    match a with
    | 0 => rfl
    | 1 => rfl
    | 2 => rfl
  have hs : ∀ a : Fin 3, scatter_S2x2048x4096_S2x2048x20x3_S2x2048x20_n_012_012_3.start (ix3 b n r) idx a
      = (idx (ix4 b n r a)).toInt := fun a =>
    match a with
    | 0 => congrArg (fun i => (idx i).toInt) (funext fun c => match c with
      | ⟨0, _⟩ => rfl
      | ⟨1, _⟩ => rfl
      | ⟨2, _⟩ => rfl
      | ⟨3, _⟩ => rfl)
    | 1 => congrArg (fun i => (idx i).toInt) (funext fun c => match c with
      | ⟨0, _⟩ => rfl
      | ⟨1, _⟩ => rfl
      | ⟨2, _⟩ => rfl
      | ⟨3, _⟩ => rfl)
    | 2 => congrArg (fun i => (idx i).toInt) (funext fun c => match c with
      | ⟨0, _⟩ => rfl
      | ⟨1, _⟩ => rfl
      | ⟨2, _⟩ => rfl
      | ⟨3, _⟩ => rfl)
  rw [Routing.resultIdx?_eq_some]
  constructor
  · intro h
    have h0 := h 0
    have h1 := h 1
    have h2 := h 2
    rw [hs, hw] at h0 h1 h2
    exact ⟨by simpa using h0, by simpa using h1, by simpa using h2⟩
  · rintro ⟨h0, h1, h2⟩ a
    rw [hs, hw]
    match a with
    | 0 => simpa using h0
    | 1 => simpa using h1
    | 2 => simpa using h2

/-- A small word read signed. -/
theorem toInt_small (k : Nat) (h : k < 4096) : (BitVec.ofNat 32 k).toInt = (k : Int) := by
  have e : (BitVec.ofNat 32 k).toNat = k := by
    rw [BitVec.toNat_ofNat]
    omega
  rw [BitVec.toInt_eq_toNat_of_lt (by omega), e]

/-- The update at rank `r` of a row lands at that rank's place in the row. -/
theorem lands_iff (b : Fin 2) (n : Fin 2048) (r : Fin 20) (b' : Fin 2) (n' : Fin 2048) (j : Fin 4096) :
    scatter_S2x2048x4096_S2x2048x20x3_S2x2048x20_n_012_012_3.resultIdx? (ix3 b n r) (val_main_v31 (F := Ideal) x0 x1 x2)
        = some (ix3 b' n' j)
      ↔ b = b' ∧ n = n' ∧ desc (row x0 x1 x2 b n) (rank r) = j := by
  rw [lands, v31_row, v31_row, v31_row]
  dsimp only
  have hb := b.isLt
  have hn := n.isLt
  rw [toInt_small _ (by omega), toInt_small _ (by omega), toInt_small _ (desc (row x0 x1 x2 b n) (rank r)).isLt,
    Int.ofNat_inj, Int.ofNat_inj, Int.ofNat_inj, Fin.ext_iff, Fin.ext_iff, Fin.ext_iff]

/-- The first result: a row's pre-activations, kept or zero. -/
theorem v32_row (b : Fin 2) (n : Fin 2048) (hu : Settled (row x0 x1 x2 b n) 0) (j : Fin 4096) :
    val_main_v32 (F := Ideal) x0 x1 x2 (ix3 b n j) = kept (row x0 x1 x2 b n) j := by
  rw [← kept_of_desc (row x0 x1 x2 b n) hu j]
  unfold val_main_v32
  by_cases h : ((desc (row x0 x1 x2 b n)).symm j).val < 20
  · rw [if_pos h]
    have hr : rank ⟨((desc (row x0 x1 x2 b n)).symm j).val, h⟩ = (desc (row x0 x1 x2 b n)).symm j := rfl
    refine Routing.scatter_set_hit _ _ _ _ _ _ (fun k hk => ?_) (ix3 b n ⟨((desc (row x0 x1 x2 b n)).symm j).val, h⟩) ?_
    · obtain ⟨b', n', r, rfl⟩ : ∃ (b' : Fin 2) (n' : Fin 2048) (r : Fin 20), k = ix3 b' n' r := ⟨k 0, k 1, k 2, eq_ix3 k⟩
      obtain ⟨rfl, rfl, hj⟩ := (lands_iff x0 x1 x2 b' n' r b n j).1 hk
      rw [v10_row, hj]
    · refine (lands_iff x0 x1 x2 b n _ b n j).2 ⟨rfl, rfl, ?_⟩
      rw [hr, Equiv.apply_symm_apply]
  · rw [if_neg h]
    refine (Routing.scatter_set_miss _ _ _ _ _ fun k hk => h ?_).trans ?_
    · obtain ⟨b', n', r, rfl⟩ : ∃ (b' : Fin 2) (n' : Fin 2048) (r : Fin 20), k = ix3 b' n' r := ⟨k 0, k 1, k 2, eq_ix3 k⟩
      obtain ⟨rfl, rfl, hj⟩ := (lands_iff x0 x1 x2 b' n' r b n j).1 hk
      rw [← hj, Equiv.symm_apply_apply]
      exact r.isLt
    · rw [val_main_v8_apply, val_main_cst_apply, ofBits_zero]

/-- The second result: the first's decoding. -/
theorem v36_row (b : Fin 2) (n : Fin 2048) (j : Fin 1024) :
    val_main_v36 (F := Ideal) x0 x1 x2 x3 x4 (ix3 b n j)
      = (∑ k : Fin 4096, val_main_v32 (F := Ideal) x0 x1 x2 (ix3 b n k) * x3 (ix2 j k)) + x4 (ix1 j) := by
  rw [val_main_v36_apply, val_main_v33_apply, val_main_v35_apply, val_main_v34_apply]
  have el : ∀ k : Fin 4096, lidx_main_v33 (ix3 b n j) k = ix3 b n k := fun k => funext fun a => match a with
    | ⟨0, _⟩ => rfl
    | ⟨1, _⟩ => rfl
    | ⟨2, _⟩ => rfl
  have er : ∀ k : Fin 4096, ridx_main_v33 (ix3 b n j) k = ix2 j k := fun k => funext fun a => match a with
    | ⟨0, _⟩ => rfl
    | ⟨1, _⟩ => rfl
  have eb : idx_main_v34 (idx_main_v35 (ix3 b n j)) = ix1 j := funext fun a => match a with
    | ⟨0, _⟩ => rfl
  simp only [el, er, eb]
  rfl

end Cert.ReferenceIdeal.Hand

end
-- ==== Proof.Pre.lean ====
/-
  What the precondition says: over the extended reals, in each row of pre-activations every one of the twenty greatest is
  strictly above the next, or the twenty-first is not positive, so the twenty greatest positive entries are determined.
-/
module

public import proofs.«01_k».proof.Proof.Ref
public import proofs.«01_k».proof.Proof.Gen.Pre_no_tie_among_the_kept

@[expose] public section

set_option maxRecDepth 65536

noncomputable section

namespace Cert.ReferenceIdeal.Hand

open Cert.ReferenceIdeal Cert.ReferenceIdeal.Gen Cert.ReferenceIdeal.Read Cert.Rank
open Idealize.ShloMosaic

variable (x0 : (⟨S2x2048x1024, .f32⟩ : BufTy).Contents (Elt Ideal)) (x1 : (⟨S4096x1024, .f32⟩ : BufTy).Contents (Elt Ideal))
  (x2 : (⟨S4096, .f32⟩ : BufTy).Contents (Elt Ideal)) (x3 : (⟨S1024x4096, .f32⟩ : BufTy).Contents (Elt Ideal))
  (x4 : (⟨S1024, .f32⟩ : BufTy).Contents (Elt Ideal))

/-- The first twenty-one of each row. -/
def first21 : FVec Ideal Cert.Pre_no_tie_among_the_kept.S2x2048x21 .f32 :=
  (Host.topK Cert.Pre_no_tie_among_the_kept.S2x2048x21 2 (FloatOps.cmpfTotal .gt) (val_main_v3 (F := Ideal) x0 x1 x2)
    Cert.Pre_no_tie_among_the_kept.Gen.sliceFits_S2x2048x4096_S2x2048x21).1

/-- The first twenty-one are the elements of those ranks. -/
theorem first21_apply (b : Fin 2) (n : Fin 2048) (r : Fin 21) (hr : r.val < 4096) :
    first21 x0 x1 x2 (ix3 b n r) = row x0 x1 x2 b n (desc (row x0 x1 x2 b n) ⟨r.val, hr⟩) := by
  have e := topK_value (val_main_v3 (F := Ideal) x0 x1 x2)
    Cert.Pre_no_tie_among_the_kept.Gen.sliceFits_S2x2048x4096_S2x2048x21 b n r hr
  rw [v3_rows, v3_row] at e
  exact e

/-- The first twenty-one compared in order, or the last of them with zero. -/
def steps (y : FVec Ideal Cert.Pre_no_tie_among_the_kept.S2x2048x21 .f32) : IVec Cert.Pre_no_tie_among_the_kept.S2x2048x20 1 :=
  ori (cmpf .ogt
      (extractStridedSlice Cert.Pre_no_tie_among_the_kept.S2x2048x20 ![0, 0, 0] y
        Cert.Pre_no_tie_among_the_kept.Gen.slices_S2x2048x21_S2x2048x20_0_0_0)
      (extractStridedSlice Cert.Pre_no_tie_among_the_kept.S2x2048x20 ![0, 0, 1] y
        Cert.Pre_no_tie_among_the_kept.Gen.slices_S2x2048x21_S2x2048x20_0_0_1))
    (broadcastInDim Cert.Pre_no_tie_among_the_kept.S2x2048x20 ![0, 1, 2]
      Cert.Pre_no_tie_among_the_kept.Gen.bcast_S2x2048x1_S2x2048x20_0_1_2
      (cmpf .ole
        (extractStridedSlice Cert.Pre_no_tie_among_the_kept.S2x2048x1 ![0, 0, 20] y
          Cert.Pre_no_tie_among_the_kept.Gen.slices_S2x2048x21_S2x2048x1_0_0_20)
        (broadcastInDim Cert.Pre_no_tie_among_the_kept.S2x2048x1 ![] Cert.Pre_no_tie_among_the_kept.Gen.bcast_S_S2x2048x1
          (constant Cert.Pre_no_tie_among_the_kept.S_ .f32 0x00000000#32))))

/-- The precondition's function is the comparison of the first twenty-one of each row. -/
theorem fn_eq : Cert.Pre_no_tie_among_the_kept.fn (F := Ideal) x0 x1 x2 x3 x4 = steps (first21 x0 x1 x2) := rfl

/-- One comparison that holds. -/
theorem steps_apply (y : FVec Ideal Cert.Pre_no_tie_among_the_kept.S2x2048x21 .f32) (b : Fin 2) (n : Fin 2048) (k : Fin 20)
    (h : steps y (ix3 b n k) = 1#1) :
    y (ix3 b n k.succ) < y (ix3 b n k.castSucc) ∨ y (ix3 b n 20) ≤ 0 := by
  unfold steps at h
  pointwise at h
  have e : (⟨1 + k.val, by have := k.isLt; omega⟩ : Fin 21) = k.succ := Fin.ext (Nat.add_comm _ _)
  rw [e] at h
  have h' := IntOp.ori_eq_one.1 h
  by_cases h1 : y (ix3 b n k.succ) < y (ix3 b n k.castSucc)
  · exact Or.inl h1
  · refine Or.inr ?_
    by_contra h2
    rcases h' with q | q
    · rw [decide_eq_false (show ¬ y (ix3 b n k.succ) < y (ix3 b n ⟨k.val, by have := k.isLt; omega⟩) from h1)] at q
      exact absurd q (by decide)
    · rw [decide_eq_false h2] at q
      exact absurd q (by decide)

/-- Under the precondition the twenty greatest positive entries of a row are determined. -/
theorem settled (h : Cert.Pre_no_tie_among_the_kept.fn (F := Ideal) x0 x1 x2 x3 x4 = fun _ => 1#1) (b : Fin 2) (n : Fin 2048) :
    Settled (row x0 x1 x2 b n) 0 := by
  rw [fn_eq] at h
  refine settled_of_steps _ (by decide) fun k hk hk20 => ?_
  have hs := steps_apply (first21 x0 x1 x2) b n ⟨k, hk20⟩ (congrFun h _)
  rw [first21_apply x0 x1 x2 b n _ hk, first21_apply x0 x1 x2 b n _ (Nat.lt_of_succ_lt hk),
    first21_apply x0 x1 x2 b n 20 (by decide)] at hs
  exact hs

end Cert.ReferenceIdeal.Hand

end
-- ==== Proof.Equation.lean ====
/-
  The equation: each of the kernel's two result arrays ends at the reference's value of the same arguments.
-/
module

public import proofs.«01_k».proof.Proof.Frames
public import proofs.«01_k».proof.Proof.Block
public import proofs.«01_k».proof.Proof.Arrays
public import proofs.«01_k».proof.Proof.Ref
public import proofs.«01_k».proof.Proof.Pre

@[expose] public section

set_option maxRecDepth 65536

noncomputable section

namespace Cert.KernelIdeal.Hand

open Cert.KernelIdeal Cert.KernelIdeal.Gen Cert.Rank
open Cert.ReferenceIdeal.Read (val_main_v32 val_main_v36)
open Cert.ReferenceIdeal.Hand (row v32_row v36_row)
open Idealize.ShloMosaic Idealize.ShloMosaic.TcCoe Idealize.SL.Sem

variable (m : (ℓ : Loc nD τ sig) → Buf (Elt Ideal) ℓ) (c : Dev nD)

/-- The reference's first result of the kernel's arguments. -/
def zRef : S2x2048x4096.Idx → EReal :=
  val_main_v32 (F := Ideal) (m (c.tc.loc main_arg0)) (m (c.tc.loc main_arg1)) (m (c.tc.loc main_arg2))

/-- The reference's second result of the kernel's arguments. -/
def xRef : S2x2048x1024.Idx → EReal :=
  val_main_v36 (F := Ideal) (m (c.tc.loc main_arg0)) (m (c.tc.loc main_arg1)) (m (c.tc.loc main_arg2))
    (m (c.tc.loc main_arg3)) (m (c.tc.loc main_arg4))

/-- The pre-activations of one row of the flattened rows. -/
def pre (r : Fin 4096) : Fin 4096 → EReal :=
  row (m (c.tc.loc main_arg0)) (m (c.tc.loc main_arg1)) (m (c.tc.loc main_arg2)) (batch r) (within r)

/-- The twenty greatest positive entries of every row are determined. -/
def NoTie : Prop := ∀ r, Settled (pre m c r) 0

/-- Pre-activations computed from a row of inputs, weights and biases that are the arguments'. -/
theorem pre_of (v0 : FVec Ideal S256x1024 .bf16) (v2 : FVec Ideal S4096x1024 .bf16) (v5 : FVec Ideal S1x4096 .f32)
    (i : Fin 256) (r : Fin 4096)
    (h0 : ∀ k, v0 (ix2 i k) = m (c.tc.loc main_arg0) (ix3 (batch r) (within r) k))
    (h2 : ∀ j k, v2 (ix2 j k) = m (c.tc.loc main_arg1) (ix2 j k))
    (h5 : ∀ j, v5 (ix2 0 j) = m (c.tc.loc main_arg2) (ix1 j)) :
    (fun j : Fin 4096 => (∑ x : Fin 1024, v0 (ix2 i x) * v2 (ix2 j x)) + v5 (ix2 0 j)) = pre m c r := by
  funext j
  refine congrArg₂ (· + ·) (Finset.sum_congr rfl fun k _ => ?_) (h5 j)
  exact congrArg₂ (· * ·) (h0 k) (h2 j k)

/-- Block `t` of the first result, entry by entry. -/
theorem zBlock_eq (h : NoTie m c) (t : Fin cfg0.N) (i : Fin 256) (j : Fin 4096) :
    zBlock (iblk m c 0 t) (iblk m c 1 t) (iblk m c 2 t) (ix2 i j)
      = zRef m c (ix3 (batch (rowAt t i)) (within (rowAt t i)) j) := by
  have e := pre_of m c (iblk m c 0 t) (iblk m c 1 t) (iblk m c 2 t) i (rowAt t i) (iblk_rows m c t i) (iblk_enc m c t)
    (iblk_encBias m c t)
  refine (zBlock_apply (iblk m c 0 t) (iblk m c 1 t) (iblk m c 2 t) i ?_ j).trans ?_
  · exact e.symm ▸ h (rowAt t i)
  · exact (congrFun (congrArg kept e) j).trans (v32_row _ _ _ _ _ (h (rowAt t i)) j).symm

/-- Block `t` of the second result, entry by entry. -/
theorem xBlock_eq (h : NoTie m c) (t : Fin cfg0.N) (i : Fin 256) (j : Fin 1024) :
    xBlock (iblk m c 0 t) (iblk m c 1 t) (iblk m c 2 t) (iblk m c 3 t) (iblk m c 4 t) (ix2 i j)
      = xRef m c (ix3 (batch (rowAt t i)) (within (rowAt t i)) j) := by
  refine (xBlock_apply _ _ _ _ _ i j).trans ?_
  refine Eq.trans ?_ (v36_row _ _ _ _ _ _ _ j).symm
  refine congrArg₂ (· + ·) (Finset.sum_congr rfl fun k _ => ?_) (iblk_decBias m c t j)
  exact congrArg₂ (· * ·) (zBlock_eq m c h t i k) (iblk_dec m c t j k)

/-- The first result's array after the launch: the reference's value, flattened. -/
theorem array_z (h : NoTie m c) :
    (dats m 0 c).arrAt 5 cfg0.N = shapeCast S4096x4096 (zRef m c) shapeCasts_S4096x4096_S2x2048x4096.symm := by
  refine (dats m 0 c).arrAt_eq_of_covers 5 _ (by decide +kernel) fun t _ y => ?_
  obtain ⟨i, j, hy⟩ : ∃ i j, y = ix2 i j := ⟨_, _, eq_ix2 y⟩
  subst hy
  refine Eq.trans ?_ (congrArg (shapeCast S4096x4096 (zRef m c) shapeCasts_S4096x4096_S2x2048x4096.symm) (emb_z t i j)).symm
  refine Eq.trans ?_ (flat_wide (zRef m c) _ (rowAt t i) j).symm
  refine Eq.trans ?_ (zBlock_eq m c h t i j)
  rw [← after_5]
  rfl

/-- The second result's array after the launch: the reference's value, flattened. -/
theorem array_x (h : NoTie m c) :
    (dats m 0 c).arrAt 6 cfg0.N = shapeCast S4096x1024 (xRef m c) shapeCasts_S4096x1024_S2x2048x1024.symm := by
  refine (dats m 0 c).arrAt_eq_of_covers 6 _ (by decide +kernel) fun t _ y => ?_
  obtain ⟨i, j, hy⟩ : ∃ i j, y = ix2 i j := ⟨_, _, eq_ix2 y⟩
  subst hy
  refine Eq.trans ?_ (congrArg (shapeCast S4096x1024 (xRef m c) shapeCasts_S4096x1024_S2x2048x1024.symm) (emb_x t i j)).symm
  refine Eq.trans ?_ (flat_narrow (xRef m c) _ (rowAt t i) j).symm
  refine Eq.trans ?_ (xBlock_eq m c h t i j)
  rw [← after_6]
  rfl

/-- The first result: the array's rows regrouped. -/
theorem result_z (h : NoTie m c) :
    Pipeline.afterTail₀ cfgs (dats m) 0 (V0 m) [hostOps1] c main_v7 = zRef m c := by
  have e : Pipeline.withArrays (cfgs 0).spec c (V0 m c) (fun w => (dats m 0 c).arrAt w (cfgs 0).N)
      (Proc.devRef .tc main_v6_0) = (dats m 0 c).arrAt 5 cfg0.N :=
    Pipeline.withArrays_arr (cfgs 0).spec (by decide) c _ _ 5
  unfold Pipeline.afterTail₀
  generalize Pipeline.withArrays (cfgs 0).spec c (V0 m c) (fun w => (dats m 0 c).arrAt w (cfgs 0).N) = W at e ⊢
  simp only [hostOps1, List.flatten_cons, List.flatten_nil, List.append_nil]
  after_results
  rw [e, array_z m c h]
  exact shapeCast_shapeCast (α := EReal) _ _ _

/-- The second result: the array's rows regrouped. -/
theorem result_x (h : NoTie m c) :
    Pipeline.afterTail₀ cfgs (dats m) 0 (V0 m) [hostOps1] c main_v8 = xRef m c := by
  have e : Pipeline.withArrays (cfgs 0).spec c (V0 m c) (fun w => (dats m 0 c).arrAt w (cfgs 0).N)
      (Proc.devRef .tc main_v6_1) = (dats m 0 c).arrAt 6 cfg0.N :=
    Pipeline.withArrays_arr (cfgs 0).spec (by decide) c _ _ 6
  unfold Pipeline.afterTail₀
  generalize Pipeline.withArrays (cfgs 0).spec c (V0 m c) (fun w => (dats m 0 c).arrAt w (cfgs 0).N) = W at e ⊢
  simp only [hostOps1, List.flatten_cons, List.flatten_nil, List.append_nil]
  after_results
  rw [e, array_x m c h]
  exact shapeCast_shapeCast (α := EReal) _ _ _

end Cert.KernelIdeal.Hand

namespace Cert.Proof

open Idealize.ShloMosaic Idealize.SL.Sem
open Cert.KernelIdeal.Hand (zRef xRef NoTie)

/-- The kernel's run: its results end at the reference's values of its arguments, which end as launched. -/
theorem kernel_run (m : (ℓ : Loc Cert.KernelIdeal.nD Cert.KernelIdeal.τ Cert.KernelIdeal.sig) → Buf (Elt Ideal) ℓ)
    (ρ : Dev Cert.KernelIdeal.nD → PrngReg) (h : ∀ c, NoTie m c) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem (c.tc.loc Cert.KernelIdeal.main_v7) = zRef m c
        ∧ r.2.mem (c.tc.loc Cert.KernelIdeal.main_v8) = xRef m c
        ∧ r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)
        ∧ r.2.mem (c.tc.loc Cert.KernelIdeal.main_arg2) = m (c.tc.loc Cert.KernelIdeal.main_arg2)
        ∧ r.2.mem (c.tc.loc Cert.KernelIdeal.main_arg3) = m (c.tc.loc Cert.KernelIdeal.main_arg3)
        ∧ r.2.mem (c.tc.loc Cert.KernelIdeal.main_arg4) = m (c.tc.loc Cert.KernelIdeal.main_arg4)) :=
  (θ_run Cert.KernelIdeal.defs _ _).mono (fun _ H c =>
    ⟨((H.1 c).2 Cert.KernelIdeal.main_v7 (Pipeline.mem_restRefs_of Cert.KernelIdeal.main_v7 (by decide) (by decide))).trans
        (Cert.KernelIdeal.Hand.result_z m c (h c)),
     ((H.1 c).2 Cert.KernelIdeal.main_v8 (Pipeline.mem_restRefs_of Cert.KernelIdeal.main_v8 (by decide) (by decide))).trans
        (Cert.KernelIdeal.Hand.result_x m c (h c)),
     ((H.1 c).2 Cert.KernelIdeal.main_arg0 (Pipeline.mem_restRefs_of Cert.KernelIdeal.main_arg0 (by decide) (by decide))).trans
        (Cert.KernelIdeal.Gen.W_main_arg0 m (Cert.KernelIdeal.Hand.dats m) c),
     ((H.1 c).2 Cert.KernelIdeal.main_arg1 (Pipeline.mem_restRefs_of Cert.KernelIdeal.main_arg1 (by decide) (by decide))).trans
        (Cert.KernelIdeal.Gen.W_main_arg1 m (Cert.KernelIdeal.Hand.dats m) c),
     ((H.1 c).2 Cert.KernelIdeal.main_arg2 (Pipeline.mem_restRefs_of Cert.KernelIdeal.main_arg2 (by decide) (by decide))).trans
        (Cert.KernelIdeal.Gen.W_main_arg2 m (Cert.KernelIdeal.Hand.dats m) c),
     ((H.1 c).2 Cert.KernelIdeal.main_arg3 (Pipeline.mem_restRefs_of Cert.KernelIdeal.main_arg3 (by decide) (by decide))).trans
        (Cert.KernelIdeal.Gen.W_main_arg3 m (Cert.KernelIdeal.Hand.dats m) c),
     ((H.1 c).2 Cert.KernelIdeal.main_arg4 (Pipeline.mem_restRefs_of Cert.KernelIdeal.main_arg4 (by decide) (by decide))).trans
        (Cert.KernelIdeal.Gen.W_main_arg4 m (Cert.KernelIdeal.Hand.dats m) c)⟩)
    (Cert.KernelIdeal.Hand.run_main m ρ)

/-- The precondition says that in every row the twenty greatest positive entries are determined. -/
theorem noTie (m : (ℓ : Loc Cert.KernelIdeal.nD Cert.KernelIdeal.τ Cert.KernelIdeal.sig) → Buf (Elt Ideal) ℓ)
    (h : Cert.Pre_KernelIdeal_no_tie_among_the_kept m) (c : Dev Cert.KernelIdeal.nD) : NoTie m c := fun r =>
  Cert.ReferenceIdeal.Hand.settled _ _ _ _ _ (h c) (Cert.KernelIdeal.Hand.batch r) (Cert.KernelIdeal.Hand.within r)

/-- Where the twenty greatest positive entries of every row are determined, the kernel's results are the reference's. -/
theorem algebraic : Cert.algebraic_KernelIdeal_ReferenceIdeal_pre_no_tie_among_the_kept := by
  intro m ρ m' ρ' hpre hagree
  refine ⟨zRef m, xRef m, kernel_run m ρ (noTie m hpre), ?_⟩
  refine (θ_run Cert.ReferenceIdeal.defs _ _).mono (fun _ H c => ⟨(H c).1.trans ?_, (H c).2.1.trans ?_, (H c).2.2⟩)
    (Cert.ReferenceIdeal.Value.run (F := Ideal) m' ρ')
  · obtain ⟨e0, e1, e2, e3, e4⟩ := hagree c
    refine (Cert.ReferenceIdeal.Read.val_main_v32_eq _ _ _).trans ?_
    rw [e0, e1, e2]
    rfl
  · obtain ⟨e0, e1, e2, e3, e4⟩ := hagree c
    refine (Cert.ReferenceIdeal.Read.val_main_v36_eq _ _ _ _ _).trans ?_
    rw [e0, e1, e2, e3, e4]
    rfl

end Cert.Proof

end
-- ==== Proof.lean ====
/-
  The certificate: the three frames, and the equation of the kernel's two results with the reference's.
-/
module

public import proofs.«01_k».proof.Defs
public import proofs.«01_k».proof.Proof.Frames
public import proofs.«01_k».proof.Proof.Equation
public import proofs.«01_k».proof.Proof.Gen.Kernel
public import proofs.«01_k».proof.Proof.Gen.KernelIdeal
public import proofs.«01_k».proof.Proof.Gen.ReferenceIdeal.Run
public import proofs.«01_k».proof.Proof.Gen.ReferenceIdeal.Read
public import proofs.«01_k».proof.Proof.Gen.Pre_no_tie_among_the_kept
public import Idealize.ShloMosaic.Adequacy
public import Idealize.ShloMosaic.Init

@[expose] public section

noncomputable section

namespace Cert.Proof

open Idealize.ShloMosaic Idealize.SL.Sem

/-- Everything claimed: the frames of the kernel, of its ideal reading and of the reference (the last two also under the
    precondition, which they do not need), that the ideal reading is the kernel's own text, and that over the extended
    reals both results are the reference's. -/
theorem claim : Cert.Claim :=
  ⟨Cert.Kernel.Gen.facts, Cert.KernelIdeal.Gen.facts, Cert.ReferenceIdeal.Gen.facts,
    Cert.Pre_no_tie_among_the_kept.Gen.facts,
    frame_kernel, frame_ideal, fun m g _ => frame_ideal m g trivial,
    frame_reference, fun m g _ => frame_reference m g trivial,
    trivial, algebraic⟩

end Cert.Proof

end
